-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S464x14848 : Shape := ⟨2, ![464, 14848]⟩
abbrev S29x14848 : Shape := ⟨2, ![29, 14848]⟩
abbrev S3712x14848 : Shape := ⟨2, ![3712, 14848]⟩
abbrev S464x512 : Shape := ⟨2, ![464, 512]⟩
abbrev S29x512 : Shape := ⟨2, ![29, 512]⟩
abbrev S3712x512 : Shape := ⟨2, ![3712, 512]⟩
abbrev S16x128 : Shape := ⟨2, ![16, 128]⟩
abbrev S8x128 : Shape := ⟨2, ![8, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S464x14848, .i32⟩
  | .hbm, ⟨1, _⟩ => ⟨S29x14848, .bf16⟩
  | .hbm, ⟨2, _⟩ => ⟨S29x14848, .bf16⟩
  | .hbm, ⟨3, _⟩ => ⟨S3712x14848, .bf16⟩
  | .local _ .vmem, ⟨0, _⟩ => ⟨S464x512, .i32⟩
  | .local _ .vmem, ⟨1, _⟩ => ⟨S464x512, .i32⟩
  | .local _ .vmem, ⟨2, _⟩ => ⟨S29x512, .bf16⟩
  | .local _ .vmem, ⟨3, _⟩ => ⟨S29x512, .bf16⟩
  | .local _ .vmem, ⟨4, _⟩ => ⟨S29x512, .bf16⟩
  | .local _ .vmem, ⟨5, _⟩ => ⟨S29x512, .bf16⟩
  | .local _ .vmem, ⟨6, _⟩ => ⟨S3712x512, .bf16⟩
  | .local _ .vmem, ⟨7, _⟩ => ⟨S3712x512, .bf16⟩
  | _, _ => ⟨S464x14848, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![29], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  v1
def k0_off1 (k0_t1 : Fin k0_t1_loop.trips) : Fin 2 → Nat :=
  let c0 : Index := 0#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3 : Index := Scalar.indexCast v2
  ![0, v3.toNat]
def k0_off2 (k0_t1 : Fin k0_t1_loop.trips) : Fin 2 → Nat :=
  let c0_2 : Index := 0#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v20 : Index := Scalar.indexCast v2
  ![0, v20.toNat]
def k0_off3 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v30 : Index := Scalar.indexCast v2
  ![0, v30.toNat]
def k0_off4 (k0_t1 : Fin k0_t1_loop.trips) : Fin 2 → Nat :=
  let c3 : Index := 3#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v41 : Index := Scalar.indexCast v2
  ![3, v41.toNat]
def k0_off5 (k0_t1 : Fin k0_t1_loop.trips) : Fin 2 → Nat :=
  let c464 : Index := 464#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v51 : Index := Scalar.indexCast v2
  ![464, v51.toNat]
def k0_off6 (k0_t1 : Fin k0_t1_loop.trips) : Fin 2 → Nat :=
  let c7 : Index := 7#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v62 : Index := Scalar.indexCast v2
  ![7, v62.toNat]
def k0_off7 (k0_t1 : Fin k0_t1_loop.trips) : Fin 2 → Nat :=
  let c928 : Index := 928#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v72 : Index := Scalar.indexCast v2
  ![928, v72.toNat]
def k0_off8 (k0_t1 : Fin k0_t1_loop.trips) : Fin 2 → Nat :=
  let c10 : Index := 10#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v83 : Index := Scalar.indexCast v2
  ![10, v83.toNat]
def k0_off9 (k0_t1 : Fin k0_t1_loop.trips) : Fin 2 → Nat :=
  let c1392 : Index := 1392#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v93 : Index := Scalar.indexCast v2
  ![1392, v93.toNat]
def k0_off10 (k0_t1 : Fin k0_t1_loop.trips) : Fin 2 → Nat :=
  let c14 : Index := 14#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v104 : Index := Scalar.indexCast v2
  ![14, v104.toNat]
def k0_off11 (k0_t1 : Fin k0_t1_loop.trips) : Fin 2 → Nat :=
  let c1856 : Index := 1856#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v114 : Index := Scalar.indexCast v2
  ![1856, v114.toNat]
def k0_off12 (k0_t1 : Fin k0_t1_loop.trips) : Fin 2 → Nat :=
  let c18 : Index := 18#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v125 : Index := Scalar.indexCast v2
  ![18, v125.toNat]
def k0_off13 (k0_t1 : Fin k0_t1_loop.trips) : Fin 2 → Nat :=
  let c2320 : Index := 2320#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v135 : Index := Scalar.indexCast v2
  ![2320, v135.toNat]
def k0_off14 (k0_t1 : Fin k0_t1_loop.trips) : Fin 2 → Nat :=
  let c21 : Index := 21#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v146 : Index := Scalar.indexCast v2
  ![21, v146.toNat]
def k0_off15 (k0_t1 : Fin k0_t1_loop.trips) : Fin 2 → Nat :=
  let c2784 : Index := 2784#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v156 : Index := Scalar.indexCast v2
  ![2784, v156.toNat]
def k0_off16 (k0_t1 : Fin k0_t1_loop.trips) : Fin 2 → Nat :=
  let c25 : Index := 25#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v167 : Index := Scalar.indexCast v2
  ![25, v167.toNat]
def k0_off17 (k0_t1 : Fin k0_t1_loop.trips) : Fin 2 → Nat :=
  let c3248 : Index := 3248#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v177 : Index := Scalar.indexCast v2
  ![3248, v177.toNat]
def k0_off18 (k0_t1 : Fin k0_t1_loop.trips) : Fin 2 → Nat :=
  let c16 : Index := 16#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v179 : Index := Scalar.indexCast v2
  ![16, v179.toNat]
def k0_off19 (k0_t1 : Fin k0_t1_loop.trips) : Fin 2 → Nat :=
  let c16_45 : Index := 16#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v206 : Index := Scalar.indexCast v2
  ![16, v206.toNat]
def k0_off20 (k0_t1 : Fin k0_t1_loop.trips) : Fin 2 → Nat :=
  let c480 : Index := 480#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v227 : Index := Scalar.indexCast v2
  ![480, v227.toNat]
def k0_off21 (k0_t1 : Fin k0_t1_loop.trips) : Fin 2 → Nat :=
  let c944 : Index := 944#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v248 : Index := Scalar.indexCast v2
  ![944, v248.toNat]
def k0_off22 (k0_t1 : Fin k0_t1_loop.trips) : Fin 2 → Nat :=
  let c11 : Index := 11#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v259 : Index := Scalar.indexCast v2
  ![11, v259.toNat]
def k0_off23 (k0_t1 : Fin k0_t1_loop.trips) : Fin 2 → Nat :=
  let c1408 : Index := 1408#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v269 : Index := Scalar.indexCast v2
  ![1408, v269.toNat]
def k0_off24 (k0_t1 : Fin k0_t1_loop.trips) : Fin 2 → Nat :=
  let c1872 : Index := 1872#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v290 : Index := Scalar.indexCast v2
  ![1872, v290.toNat]
def k0_off25 (k0_t1 : Fin k0_t1_loop.trips) : Fin 2 → Nat :=
  let c2336 : Index := 2336#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v311 : Index := Scalar.indexCast v2
  ![2336, v311.toNat]
def k0_off26 (k0_t1 : Fin k0_t1_loop.trips) : Fin 2 → Nat :=
  let c2800 : Index := 2800#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v332 : Index := Scalar.indexCast v2
  ![2800, v332.toNat]
def k0_off27 (k0_t1 : Fin k0_t1_loop.trips) : Fin 2 → Nat :=
  let c3264 : Index := 3264#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v353 : Index := Scalar.indexCast v2
  ![3264, v353.toNat]
def k0_off28 (k0_t1 : Fin k0_t1_loop.trips) : Fin 2 → Nat :=
  let c32 : Index := 32#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v355 : Index := Scalar.indexCast v2
  ![32, v355.toNat]
def k0_off29 (k0_t1 : Fin k0_t1_loop.trips) : Fin 2 → Nat :=
  let c32_94 : Index := 32#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v382 : Index := Scalar.indexCast v2
  ![32, v382.toNat]
def k0_off30 (k0_t1 : Fin k0_t1_loop.trips) : Fin 2 → Nat :=
  let c496 : Index := 496#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v403 : Index := Scalar.indexCast v2
  ![496, v403.toNat]
def k0_off31 (k0_t1 : Fin k0_t1_loop.trips) : Fin 2 → Nat :=
  let c960 : Index := 960#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v424 : Index := Scalar.indexCast v2
  ![960, v424.toNat]
def k0_off32 (k0_t1 : Fin k0_t1_loop.trips) : Fin 2 → Nat :=
  let c1424 : Index := 1424#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v445 : Index := Scalar.indexCast v2
  ![1424, v445.toNat]
def k0_off33 (k0_t1 : Fin k0_t1_loop.trips) : Fin 2 → Nat :=
  let c1888 : Index := 1888#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v466 : Index := Scalar.indexCast v2
  ![1888, v466.toNat]
def k0_off34 (k0_t1 : Fin k0_t1_loop.trips) : Fin 2 → Nat :=
  let c2352 : Index := 2352#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v487 : Index := Scalar.indexCast v2
  ![2352, v487.toNat]
def k0_off35 (k0_t1 : Fin k0_t1_loop.trips) : Fin 2 → Nat :=
  let c22 : Index := 22#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v498 : Index := Scalar.indexCast v2
  ![22, v498.toNat]
def k0_off36 (k0_t1 : Fin k0_t1_loop.trips) : Fin 2 → Nat :=
  let c2816 : Index := 2816#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v508 : Index := Scalar.indexCast v2
  ![2816, v508.toNat]
def k0_off37 (k0_t1 : Fin k0_t1_loop.trips) : Fin 2 → Nat :=
  let c3280 : Index := 3280#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v529 : Index := Scalar.indexCast v2
  ![3280, v529.toNat]
def k0_off38 (k0_t1 : Fin k0_t1_loop.trips) : Fin 2 → Nat :=
  let c48 : Index := 48#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v531 : Index := Scalar.indexCast v2
  ![48, v531.toNat]
def k0_off39 (k0_t1 : Fin k0_t1_loop.trips) : Fin 2 → Nat :=
  let c48_143 : Index := 48#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v558 : Index := Scalar.indexCast v2
  ![48, v558.toNat]
def k0_off40 (k0_t1 : Fin k0_t1_loop.trips) : Fin 2 → Nat :=
  let c4 : Index := 4#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v569 : Index := Scalar.indexCast v2
  ![4, v569.toNat]
def k0_off41 (k0_t1 : Fin k0_t1_loop.trips) : Fin 2 → Nat :=
  let c512 : Index := 512#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v579 : Index := Scalar.indexCast v2
  ![512, v579.toNat]
def k0_off42 (k0_t1 : Fin k0_t1_loop.trips) : Fin 2 → Nat :=
  let c976 : Index := 976#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v600 : Index := Scalar.indexCast v2
  ![976, v600.toNat]
def k0_off43 (k0_t1 : Fin k0_t1_loop.trips) : Fin 2 → Nat :=
  let c1440 : Index := 1440#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v621 : Index := Scalar.indexCast v2
  ![1440, v621.toNat]
def k0_off44 (k0_t1 : Fin k0_t1_loop.trips) : Fin 2 → Nat :=
  let c1904 : Index := 1904#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v642 : Index := Scalar.indexCast v2
  ![1904, v642.toNat]
def k0_off45 (k0_t1 : Fin k0_t1_loop.trips) : Fin 2 → Nat :=
  let c2368 : Index := 2368#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v663 : Index := Scalar.indexCast v2
  ![2368, v663.toNat]
def k0_off46 (k0_t1 : Fin k0_t1_loop.trips) : Fin 2 → Nat :=
  let c2832 : Index := 2832#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v684 : Index := Scalar.indexCast v2
  ![2832, v684.toNat]
def k0_off47 (k0_t1 : Fin k0_t1_loop.trips) : Fin 2 → Nat :=
  let c3296 : Index := 3296#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v705 : Index := Scalar.indexCast v2
  ![3296, v705.toNat]
def k0_off48 (k0_t1 : Fin k0_t1_loop.trips) : Fin 2 → Nat :=
  let c64 : Index := 64#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v707 : Index := Scalar.indexCast v2
  ![64, v707.toNat]
def k0_off49 (k0_t1 : Fin k0_t1_loop.trips) : Fin 2 → Nat :=
  let c64_192 : Index := 64#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v734 : Index := Scalar.indexCast v2
  ![64, v734.toNat]
def k0_off50 (k0_t1 : Fin k0_t1_loop.trips) : Fin 2 → Nat :=
  let c528 : Index := 528#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v755 : Index := Scalar.indexCast v2
  ![528, v755.toNat]
def k0_off51 (k0_t1 : Fin k0_t1_loop.trips) : Fin 2 → Nat :=
  let c992 : Index := 992#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v776 : Index := Scalar.indexCast v2
  ![992, v776.toNat]
def k0_off52 (k0_t1 : Fin k0_t1_loop.trips) : Fin 2 → Nat :=
  let c1456 : Index := 1456#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v797 : Index := Scalar.indexCast v2
  ![1456, v797.toNat]
def k0_off53 (k0_t1 : Fin k0_t1_loop.trips) : Fin 2 → Nat :=
  let c15 : Index := 15#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v808 : Index := Scalar.indexCast v2
  ![15, v808.toNat]
def k0_off54 (k0_t1 : Fin k0_t1_loop.trips) : Fin 2 → Nat :=
  let c1920 : Index := 1920#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v818 : Index := Scalar.indexCast v2
  ![1920, v818.toNat]
def k0_off55 (k0_t1 : Fin k0_t1_loop.trips) : Fin 2 → Nat :=
  let c2384 : Index := 2384#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v839 : Index := Scalar.indexCast v2
  ![2384, v839.toNat]
def k0_off56 (k0_t1 : Fin k0_t1_loop.trips) : Fin 2 → Nat :=
  let c2848 : Index := 2848#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v860 : Index := Scalar.indexCast v2
  ![2848, v860.toNat]
def k0_off57 (k0_t1 : Fin k0_t1_loop.trips) : Fin 2 → Nat :=
  let c3312 : Index := 3312#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v881 : Index := Scalar.indexCast v2
  ![3312, v881.toNat]
def k0_off58 (k0_t1 : Fin k0_t1_loop.trips) : Fin 2 → Nat :=
  let c80 : Index := 80#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v883 : Index := Scalar.indexCast v2
  ![80, v883.toNat]
def k0_off59 (k0_t1 : Fin k0_t1_loop.trips) : Fin 2 → Nat :=
  let c80_241 : Index := 80#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v910 : Index := Scalar.indexCast v2
  ![80, v910.toNat]
def k0_off60 (k0_t1 : Fin k0_t1_loop.trips) : Fin 2 → Nat :=
  let c544 : Index := 544#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v931 : Index := Scalar.indexCast v2
  ![544, v931.toNat]
def k0_off61 (k0_t1 : Fin k0_t1_loop.trips) : Fin 2 → Nat :=
  let c1008 : Index := 1008#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v952 : Index := Scalar.indexCast v2
  ![1008, v952.toNat]
def k0_off62 (k0_t1 : Fin k0_t1_loop.trips) : Fin 2 → Nat :=
  let c1472 : Index := 1472#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v973 : Index := Scalar.indexCast v2
  ![1472, v973.toNat]
def k0_off63 (k0_t1 : Fin k0_t1_loop.trips) : Fin 2 → Nat :=
  let c1936 : Index := 1936#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v994 : Index := Scalar.indexCast v2
  ![1936, v994.toNat]
def k0_off64 (k0_t1 : Fin k0_t1_loop.trips) : Fin 2 → Nat :=
  let c2400 : Index := 2400#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1015 : Index := Scalar.indexCast v2
  ![2400, v1015.toNat]
def k0_off65 (k0_t1 : Fin k0_t1_loop.trips) : Fin 2 → Nat :=
  let c2864 : Index := 2864#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1036 : Index := Scalar.indexCast v2
  ![2864, v1036.toNat]
def k0_off66 (k0_t1 : Fin k0_t1_loop.trips) : Fin 2 → Nat :=
  let c26 : Index := 26#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1047 : Index := Scalar.indexCast v2
  ![26, v1047.toNat]
def k0_off67 (k0_t1 : Fin k0_t1_loop.trips) : Fin 2 → Nat :=
  let c3328 : Index := 3328#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1057 : Index := Scalar.indexCast v2
  ![3328, v1057.toNat]
def k0_off68 (k0_t1 : Fin k0_t1_loop.trips) : Fin 2 → Nat :=
  let c96 : Index := 96#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1059 : Index := Scalar.indexCast v2
  ![96, v1059.toNat]
def k0_off69 (k0_t1 : Fin k0_t1_loop.trips) : Fin 2 → Nat :=
  let c96_290 : Index := 96#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1086 : Index := Scalar.indexCast v2
  ![96, v1086.toNat]
def k0_off70 (k0_t1 : Fin k0_t1_loop.trips) : Fin 2 → Nat :=
  let c560 : Index := 560#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1107 : Index := Scalar.indexCast v2
  ![560, v1107.toNat]
def k0_off71 (k0_t1 : Fin k0_t1_loop.trips) : Fin 2 → Nat :=
  let c8 : Index := 8#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1118 : Index := Scalar.indexCast v2
  ![8, v1118.toNat]
def k0_off72 (k0_t1 : Fin k0_t1_loop.trips) : Fin 2 → Nat :=
  let c1024 : Index := 1024#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1128 : Index := Scalar.indexCast v2
  ![1024, v1128.toNat]
def k0_off73 (k0_t1 : Fin k0_t1_loop.trips) : Fin 2 → Nat :=
  let c1488 : Index := 1488#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1149 : Index := Scalar.indexCast v2
  ![1488, v1149.toNat]
def k0_off74 (k0_t1 : Fin k0_t1_loop.trips) : Fin 2 → Nat :=
  let c1952 : Index := 1952#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1170 : Index := Scalar.indexCast v2
  ![1952, v1170.toNat]
def k0_off75 (k0_t1 : Fin k0_t1_loop.trips) : Fin 2 → Nat :=
  let c2416 : Index := 2416#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1191 : Index := Scalar.indexCast v2
  ![2416, v1191.toNat]
def k0_off76 (k0_t1 : Fin k0_t1_loop.trips) : Fin 2 → Nat :=
  let c2880 : Index := 2880#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1212 : Index := Scalar.indexCast v2
  ![2880, v1212.toNat]
def k0_off77 (k0_t1 : Fin k0_t1_loop.trips) : Fin 2 → Nat :=
  let c3344 : Index := 3344#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1233 : Index := Scalar.indexCast v2
  ![3344, v1233.toNat]
def k0_off78 (k0_t1 : Fin k0_t1_loop.trips) : Fin 2 → Nat :=
  let c112 : Index := 112#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1235 : Index := Scalar.indexCast v2
  ![112, v1235.toNat]
def k0_off79 (k0_t1 : Fin k0_t1_loop.trips) : Fin 2 → Nat :=
  let c112_339 : Index := 112#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1262 : Index := Scalar.indexCast v2
  ![112, v1262.toNat]
def k0_off80 (k0_t1 : Fin k0_t1_loop.trips) : Fin 2 → Nat :=
  let c576 : Index := 576#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1283 : Index := Scalar.indexCast v2
  ![576, v1283.toNat]
def k0_off81 (k0_t1 : Fin k0_t1_loop.trips) : Fin 2 → Nat :=
  let c1040 : Index := 1040#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1304 : Index := Scalar.indexCast v2
  ![1040, v1304.toNat]
def k0_off82 (k0_t1 : Fin k0_t1_loop.trips) : Fin 2 → Nat :=
  let c1504 : Index := 1504#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1325 : Index := Scalar.indexCast v2
  ![1504, v1325.toNat]
def k0_off83 (k0_t1 : Fin k0_t1_loop.trips) : Fin 2 → Nat :=
  let c1968 : Index := 1968#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1346 : Index := Scalar.indexCast v2
  ![1968, v1346.toNat]
def k0_off84 (k0_t1 : Fin k0_t1_loop.trips) : Fin 2 → Nat :=
  let c19 : Index := 19#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1357 : Index := Scalar.indexCast v2
  ![19, v1357.toNat]
def k0_off85 (k0_t1 : Fin k0_t1_loop.trips) : Fin 2 → Nat :=
  let c2432 : Index := 2432#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1367 : Index := Scalar.indexCast v2
  ![2432, v1367.toNat]
def k0_off86 (k0_t1 : Fin k0_t1_loop.trips) : Fin 2 → Nat :=
  let c2896 : Index := 2896#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1388 : Index := Scalar.indexCast v2
  ![2896, v1388.toNat]
def k0_off87 (k0_t1 : Fin k0_t1_loop.trips) : Fin 2 → Nat :=
  let c3360 : Index := 3360#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1409 : Index := Scalar.indexCast v2
  ![3360, v1409.toNat]
def k0_off88 (k0_t1 : Fin k0_t1_loop.trips) : Fin 2 → Nat :=
  let c128 : Index := 128#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1411 : Index := Scalar.indexCast v2
  ![128, v1411.toNat]
def k0_off89 (k0_t1 : Fin k0_t1_loop.trips) : Fin 2 → Nat :=
  let c1 : Index := 1#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1428 : Index := Scalar.indexCast v2
  ![1, v1428.toNat]
def k0_off90 (k0_t1 : Fin k0_t1_loop.trips) : Fin 2 → Nat :=
  let c128_387 : Index := 128#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1438 : Index := Scalar.indexCast v2
  ![128, v1438.toNat]
def k0_off91 (k0_t1 : Fin k0_t1_loop.trips) : Fin 2 → Nat :=
  let c592 : Index := 592#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1459 : Index := Scalar.indexCast v2
  ![592, v1459.toNat]
def k0_off92 (k0_t1 : Fin k0_t1_loop.trips) : Fin 2 → Nat :=
  let c1056 : Index := 1056#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1480 : Index := Scalar.indexCast v2
  ![1056, v1480.toNat]
def k0_off93 (k0_t1 : Fin k0_t1_loop.trips) : Fin 2 → Nat :=
  let c1520 : Index := 1520#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1501 : Index := Scalar.indexCast v2
  ![1520, v1501.toNat]
def k0_off94 (k0_t1 : Fin k0_t1_loop.trips) : Fin 2 → Nat :=
  let c1984 : Index := 1984#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1522 : Index := Scalar.indexCast v2
  ![1984, v1522.toNat]
def k0_off95 (k0_t1 : Fin k0_t1_loop.trips) : Fin 2 → Nat :=
  let c2448 : Index := 2448#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1543 : Index := Scalar.indexCast v2
  ![2448, v1543.toNat]
def k0_off96 (k0_t1 : Fin k0_t1_loop.trips) : Fin 2 → Nat :=
  let c2912 : Index := 2912#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1564 : Index := Scalar.indexCast v2
  ![2912, v1564.toNat]
def k0_off97 (k0_t1 : Fin k0_t1_loop.trips) : Fin 2 → Nat :=
  let c3376 : Index := 3376#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1585 : Index := Scalar.indexCast v2
  ![3376, v1585.toNat]
def k0_off98 (k0_t1 : Fin k0_t1_loop.trips) : Fin 2 → Nat :=
  let c144 : Index := 144#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1587 : Index := Scalar.indexCast v2
  ![144, v1587.toNat]
def k0_off99 (k0_t1 : Fin k0_t1_loop.trips) : Fin 2 → Nat :=
  let c144_437 : Index := 144#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1614 : Index := Scalar.indexCast v2
  ![144, v1614.toNat]
def k0_off100 (k0_t1 : Fin k0_t1_loop.trips) : Fin 2 → Nat :=
  let c608 : Index := 608#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1635 : Index := Scalar.indexCast v2
  ![608, v1635.toNat]
def k0_off101 (k0_t1 : Fin k0_t1_loop.trips) : Fin 2 → Nat :=
  let c1072 : Index := 1072#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1656 : Index := Scalar.indexCast v2
  ![1072, v1656.toNat]
def k0_off102 (k0_t1 : Fin k0_t1_loop.trips) : Fin 2 → Nat :=
  let c12 : Index := 12#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1667 : Index := Scalar.indexCast v2
  ![12, v1667.toNat]
def k0_off103 (k0_t1 : Fin k0_t1_loop.trips) : Fin 2 → Nat :=
  let c1536 : Index := 1536#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1677 : Index := Scalar.indexCast v2
  ![1536, v1677.toNat]
def k0_off104 (k0_t1 : Fin k0_t1_loop.trips) : Fin 2 → Nat :=
  let c2000 : Index := 2000#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1698 : Index := Scalar.indexCast v2
  ![2000, v1698.toNat]
def k0_off105 (k0_t1 : Fin k0_t1_loop.trips) : Fin 2 → Nat :=
  let c2464 : Index := 2464#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1719 : Index := Scalar.indexCast v2
  ![2464, v1719.toNat]
def k0_off106 (k0_t1 : Fin k0_t1_loop.trips) : Fin 2 → Nat :=
  let c2928 : Index := 2928#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1740 : Index := Scalar.indexCast v2
  ![2928, v1740.toNat]
def k0_off107 (k0_t1 : Fin k0_t1_loop.trips) : Fin 2 → Nat :=
  let c3392 : Index := 3392#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1761 : Index := Scalar.indexCast v2
  ![3392, v1761.toNat]
def k0_off108 (k0_t1 : Fin k0_t1_loop.trips) : Fin 2 → Nat :=
  let c160 : Index := 160#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1763 : Index := Scalar.indexCast v2
  ![160, v1763.toNat]
def k0_off109 (k0_t1 : Fin k0_t1_loop.trips) : Fin 2 → Nat :=
  let c160_486 : Index := 160#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1790 : Index := Scalar.indexCast v2
  ![160, v1790.toNat]
def k0_off110 (k0_t1 : Fin k0_t1_loop.trips) : Fin 2 → Nat :=
  let c624 : Index := 624#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1811 : Index := Scalar.indexCast v2
  ![624, v1811.toNat]
def k0_off111 (k0_t1 : Fin k0_t1_loop.trips) : Fin 2 → Nat :=
  let c1088 : Index := 1088#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1832 : Index := Scalar.indexCast v2
  ![1088, v1832.toNat]
def k0_off112 (k0_t1 : Fin k0_t1_loop.trips) : Fin 2 → Nat :=
  let c1552 : Index := 1552#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1853 : Index := Scalar.indexCast v2
  ![1552, v1853.toNat]
def k0_off113 (k0_t1 : Fin k0_t1_loop.trips) : Fin 2 → Nat :=
  let c2016 : Index := 2016#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1874 : Index := Scalar.indexCast v2
  ![2016, v1874.toNat]
def k0_off114 (k0_t1 : Fin k0_t1_loop.trips) : Fin 2 → Nat :=
  let c2480 : Index := 2480#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1895 : Index := Scalar.indexCast v2
  ![2480, v1895.toNat]
def k0_off115 (k0_t1 : Fin k0_t1_loop.trips) : Fin 2 → Nat :=
  let c23 : Index := 23#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1906 : Index := Scalar.indexCast v2
  ![23, v1906.toNat]
def k0_off116 (k0_t1 : Fin k0_t1_loop.trips) : Fin 2 → Nat :=
  let c2944 : Index := 2944#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1916 : Index := Scalar.indexCast v2
  ![2944, v1916.toNat]
def k0_off117 (k0_t1 : Fin k0_t1_loop.trips) : Fin 2 → Nat :=
  let c3408 : Index := 3408#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1937 : Index := Scalar.indexCast v2
  ![3408, v1937.toNat]
def k0_off118 (k0_t1 : Fin k0_t1_loop.trips) : Fin 2 → Nat :=
  let c176 : Index := 176#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1939 : Index := Scalar.indexCast v2
  ![176, v1939.toNat]
def k0_off119 (k0_t1 : Fin k0_t1_loop.trips) : Fin 2 → Nat :=
  let c176_535 : Index := 176#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1966 : Index := Scalar.indexCast v2
  ![176, v1966.toNat]
def k0_off120 (k0_t1 : Fin k0_t1_loop.trips) : Fin 2 → Nat :=
  let c5 : Index := 5#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1977 : Index := Scalar.indexCast v2
  ![5, v1977.toNat]
def k0_off121 (k0_t1 : Fin k0_t1_loop.trips) : Fin 2 → Nat :=
  let c640 : Index := 640#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v1987 : Index := Scalar.indexCast v2
  ![640, v1987.toNat]
def k0_off122 (k0_t1 : Fin k0_t1_loop.trips) : Fin 2 → Nat :=
  let c1104 : Index := 1104#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2008 : Index := Scalar.indexCast v2
  ![1104, v2008.toNat]
def k0_off123 (k0_t1 : Fin k0_t1_loop.trips) : Fin 2 → Nat :=
  let c1568 : Index := 1568#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2029 : Index := Scalar.indexCast v2
  ![1568, v2029.toNat]
def k0_off124 (k0_t1 : Fin k0_t1_loop.trips) : Fin 2 → Nat :=
  let c2032 : Index := 2032#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2050 : Index := Scalar.indexCast v2
  ![2032, v2050.toNat]
def k0_off125 (k0_t1 : Fin k0_t1_loop.trips) : Fin 2 → Nat :=
  let c2496 : Index := 2496#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2071 : Index := Scalar.indexCast v2
  ![2496, v2071.toNat]
def k0_off126 (k0_t1 : Fin k0_t1_loop.trips) : Fin 2 → Nat :=
  let c2960 : Index := 2960#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2092 : Index := Scalar.indexCast v2
  ![2960, v2092.toNat]
def k0_off127 (k0_t1 : Fin k0_t1_loop.trips) : Fin 2 → Nat :=
  let c3424 : Index := 3424#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2113 : Index := Scalar.indexCast v2
  ![3424, v2113.toNat]
def k0_off128 (k0_t1 : Fin k0_t1_loop.trips) : Fin 2 → Nat :=
  let c192 : Index := 192#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2115 : Index := Scalar.indexCast v2
  ![192, v2115.toNat]
def k0_off129 (k0_t1 : Fin k0_t1_loop.trips) : Fin 2 → Nat :=
  let c192_584 : Index := 192#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2142 : Index := Scalar.indexCast v2
  ![192, v2142.toNat]
def k0_off130 (k0_t1 : Fin k0_t1_loop.trips) : Fin 2 → Nat :=
  let c656 : Index := 656#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2163 : Index := Scalar.indexCast v2
  ![656, v2163.toNat]
def k0_off131 (k0_t1 : Fin k0_t1_loop.trips) : Fin 2 → Nat :=
  let c1120 : Index := 1120#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2184 : Index := Scalar.indexCast v2
  ![1120, v2184.toNat]
def k0_off132 (k0_t1 : Fin k0_t1_loop.trips) : Fin 2 → Nat :=
  let c1584 : Index := 1584#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2205 : Index := Scalar.indexCast v2
  ![1584, v2205.toNat]
def k0_off133 (k0_t1 : Fin k0_t1_loop.trips) : Fin 2 → Nat :=
  let c16_607 : Index := 16#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2216 : Index := Scalar.indexCast v2
  ![16, v2216.toNat]
def k0_off134 (k0_t1 : Fin k0_t1_loop.trips) : Fin 2 → Nat :=
  let c2048 : Index := 2048#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2226 : Index := Scalar.indexCast v2
  ![2048, v2226.toNat]
def k0_off135 (k0_t1 : Fin k0_t1_loop.trips) : Fin 2 → Nat :=
  let c2512 : Index := 2512#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2247 : Index := Scalar.indexCast v2
  ![2512, v2247.toNat]
def k0_off136 (k0_t1 : Fin k0_t1_loop.trips) : Fin 2 → Nat :=
  let c2976 : Index := 2976#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2268 : Index := Scalar.indexCast v2
  ![2976, v2268.toNat]
def k0_off137 (k0_t1 : Fin k0_t1_loop.trips) : Fin 2 → Nat :=
  let c3440 : Index := 3440#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2289 : Index := Scalar.indexCast v2
  ![3440, v2289.toNat]
def k0_off138 (k0_t1 : Fin k0_t1_loop.trips) : Fin 2 → Nat :=
  let c208 : Index := 208#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2291 : Index := Scalar.indexCast v2
  ![208, v2291.toNat]
def k0_off139 (k0_t1 : Fin k0_t1_loop.trips) : Fin 2 → Nat :=
  let c208_634 : Index := 208#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2318 : Index := Scalar.indexCast v2
  ![208, v2318.toNat]
def k0_off140 (k0_t1 : Fin k0_t1_loop.trips) : Fin 2 → Nat :=
  let c672 : Index := 672#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2339 : Index := Scalar.indexCast v2
  ![672, v2339.toNat]
def k0_off141 (k0_t1 : Fin k0_t1_loop.trips) : Fin 2 → Nat :=
  let c1136 : Index := 1136#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2360 : Index := Scalar.indexCast v2
  ![1136, v2360.toNat]
def k0_off142 (k0_t1 : Fin k0_t1_loop.trips) : Fin 2 → Nat :=
  let c1600 : Index := 1600#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2381 : Index := Scalar.indexCast v2
  ![1600, v2381.toNat]
def k0_off143 (k0_t1 : Fin k0_t1_loop.trips) : Fin 2 → Nat :=
  let c2064 : Index := 2064#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2402 : Index := Scalar.indexCast v2
  ![2064, v2402.toNat]
def k0_off144 (k0_t1 : Fin k0_t1_loop.trips) : Fin 2 → Nat :=
  let c2528 : Index := 2528#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2423 : Index := Scalar.indexCast v2
  ![2528, v2423.toNat]
def k0_off145 (k0_t1 : Fin k0_t1_loop.trips) : Fin 2 → Nat :=
  let c2992 : Index := 2992#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2444 : Index := Scalar.indexCast v2
  ![2992, v2444.toNat]
def k0_off146 (k0_t1 : Fin k0_t1_loop.trips) : Fin 2 → Nat :=
  let c27 : Index := 27#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2455 : Index := Scalar.indexCast v2
  ![27, v2455.toNat]
def k0_off147 (k0_t1 : Fin k0_t1_loop.trips) : Fin 2 → Nat :=
  let c3456 : Index := 3456#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2465 : Index := Scalar.indexCast v2
  ![3456, v2465.toNat]
def k0_off148 (k0_t1 : Fin k0_t1_loop.trips) : Fin 2 → Nat :=
  let c224 : Index := 224#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2467 : Index := Scalar.indexCast v2
  ![224, v2467.toNat]
def k0_off149 (k0_t1 : Fin k0_t1_loop.trips) : Fin 2 → Nat :=
  let c224_683 : Index := 224#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2494 : Index := Scalar.indexCast v2
  ![224, v2494.toNat]
def k0_off150 (k0_t1 : Fin k0_t1_loop.trips) : Fin 2 → Nat :=
  let c688 : Index := 688#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2515 : Index := Scalar.indexCast v2
  ![688, v2515.toNat]
def k0_off151 (k0_t1 : Fin k0_t1_loop.trips) : Fin 2 → Nat :=
  let c9 : Index := 9#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2526 : Index := Scalar.indexCast v2
  ![9, v2526.toNat]
def k0_off152 (k0_t1 : Fin k0_t1_loop.trips) : Fin 2 → Nat :=
  let c1152 : Index := 1152#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2536 : Index := Scalar.indexCast v2
  ![1152, v2536.toNat]
def k0_off153 (k0_t1 : Fin k0_t1_loop.trips) : Fin 2 → Nat :=
  let c1616 : Index := 1616#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2557 : Index := Scalar.indexCast v2
  ![1616, v2557.toNat]
def k0_off154 (k0_t1 : Fin k0_t1_loop.trips) : Fin 2 → Nat :=
  let c2080 : Index := 2080#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2578 : Index := Scalar.indexCast v2
  ![2080, v2578.toNat]
def k0_off155 (k0_t1 : Fin k0_t1_loop.trips) : Fin 2 → Nat :=
  let c2544 : Index := 2544#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2599 : Index := Scalar.indexCast v2
  ![2544, v2599.toNat]
def k0_off156 (k0_t1 : Fin k0_t1_loop.trips) : Fin 2 → Nat :=
  let c3008 : Index := 3008#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2620 : Index := Scalar.indexCast v2
  ![3008, v2620.toNat]
def k0_off157 (k0_t1 : Fin k0_t1_loop.trips) : Fin 2 → Nat :=
  let c3472 : Index := 3472#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2641 : Index := Scalar.indexCast v2
  ![3472, v2641.toNat]
def k0_off158 (k0_t1 : Fin k0_t1_loop.trips) : Fin 2 → Nat :=
  let c240 : Index := 240#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2643 : Index := Scalar.indexCast v2
  ![240, v2643.toNat]
def k0_off159 (k0_t1 : Fin k0_t1_loop.trips) : Fin 2 → Nat :=
  let c240_732 : Index := 240#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2670 : Index := Scalar.indexCast v2
  ![240, v2670.toNat]
def k0_off160 (k0_t1 : Fin k0_t1_loop.trips) : Fin 2 → Nat :=
  let c704 : Index := 704#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2691 : Index := Scalar.indexCast v2
  ![704, v2691.toNat]
def k0_off161 (k0_t1 : Fin k0_t1_loop.trips) : Fin 2 → Nat :=
  let c1168 : Index := 1168#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2712 : Index := Scalar.indexCast v2
  ![1168, v2712.toNat]
def k0_off162 (k0_t1 : Fin k0_t1_loop.trips) : Fin 2 → Nat :=
  let c1632 : Index := 1632#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2733 : Index := Scalar.indexCast v2
  ![1632, v2733.toNat]
def k0_off163 (k0_t1 : Fin k0_t1_loop.trips) : Fin 2 → Nat :=
  let c2096 : Index := 2096#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2754 : Index := Scalar.indexCast v2
  ![2096, v2754.toNat]
def k0_off164 (k0_t1 : Fin k0_t1_loop.trips) : Fin 2 → Nat :=
  let c20 : Index := 20#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2765 : Index := Scalar.indexCast v2
  ![20, v2765.toNat]
def k0_off165 (k0_t1 : Fin k0_t1_loop.trips) : Fin 2 → Nat :=
  let c2560 : Index := 2560#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2775 : Index := Scalar.indexCast v2
  ![2560, v2775.toNat]
def k0_off166 (k0_t1 : Fin k0_t1_loop.trips) : Fin 2 → Nat :=
  let c3024 : Index := 3024#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2796 : Index := Scalar.indexCast v2
  ![3024, v2796.toNat]
def k0_off167 (k0_t1 : Fin k0_t1_loop.trips) : Fin 2 → Nat :=
  let c3488 : Index := 3488#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2817 : Index := Scalar.indexCast v2
  ![3488, v2817.toNat]
def k0_off168 (k0_t1 : Fin k0_t1_loop.trips) : Fin 2 → Nat :=
  let c256 : Index := 256#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2819 : Index := Scalar.indexCast v2
  ![256, v2819.toNat]
def k0_off169 (k0_t1 : Fin k0_t1_loop.trips) : Fin 2 → Nat :=
  let c2 : Index := 2#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2836 : Index := Scalar.indexCast v2
  ![2, v2836.toNat]
def k0_off170 (k0_t1 : Fin k0_t1_loop.trips) : Fin 2 → Nat :=
  let c256_780 : Index := 256#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2846 : Index := Scalar.indexCast v2
  ![256, v2846.toNat]
def k0_off171 (k0_t1 : Fin k0_t1_loop.trips) : Fin 2 → Nat :=
  let c720 : Index := 720#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2867 : Index := Scalar.indexCast v2
  ![720, v2867.toNat]
def k0_off172 (k0_t1 : Fin k0_t1_loop.trips) : Fin 2 → Nat :=
  let c1184 : Index := 1184#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2888 : Index := Scalar.indexCast v2
  ![1184, v2888.toNat]
def k0_off173 (k0_t1 : Fin k0_t1_loop.trips) : Fin 2 → Nat :=
  let c1648 : Index := 1648#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2909 : Index := Scalar.indexCast v2
  ![1648, v2909.toNat]
def k0_off174 (k0_t1 : Fin k0_t1_loop.trips) : Fin 2 → Nat :=
  let c2112 : Index := 2112#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2930 : Index := Scalar.indexCast v2
  ![2112, v2930.toNat]
def k0_off175 (k0_t1 : Fin k0_t1_loop.trips) : Fin 2 → Nat :=
  let c2576 : Index := 2576#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2951 : Index := Scalar.indexCast v2
  ![2576, v2951.toNat]
def k0_off176 (k0_t1 : Fin k0_t1_loop.trips) : Fin 2 → Nat :=
  let c3040 : Index := 3040#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2972 : Index := Scalar.indexCast v2
  ![3040, v2972.toNat]
def k0_off177 (k0_t1 : Fin k0_t1_loop.trips) : Fin 2 → Nat :=
  let c3504 : Index := 3504#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2993 : Index := Scalar.indexCast v2
  ![3504, v2993.toNat]
def k0_off178 (k0_t1 : Fin k0_t1_loop.trips) : Fin 2 → Nat :=
  let c272 : Index := 272#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v2995 : Index := Scalar.indexCast v2
  ![272, v2995.toNat]
def k0_off179 (k0_t1 : Fin k0_t1_loop.trips) : Fin 2 → Nat :=
  let c272_830 : Index := 272#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3022 : Index := Scalar.indexCast v2
  ![272, v3022.toNat]
def k0_off180 (k0_t1 : Fin k0_t1_loop.trips) : Fin 2 → Nat :=
  let c736 : Index := 736#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3043 : Index := Scalar.indexCast v2
  ![736, v3043.toNat]
def k0_off181 (k0_t1 : Fin k0_t1_loop.trips) : Fin 2 → Nat :=
  let c1200 : Index := 1200#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3064 : Index := Scalar.indexCast v2
  ![1200, v3064.toNat]
def k0_off182 (k0_t1 : Fin k0_t1_loop.trips) : Fin 2 → Nat :=
  let c13 : Index := 13#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3075 : Index := Scalar.indexCast v2
  ![13, v3075.toNat]
def k0_off183 (k0_t1 : Fin k0_t1_loop.trips) : Fin 2 → Nat :=
  let c1664 : Index := 1664#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3085 : Index := Scalar.indexCast v2
  ![1664, v3085.toNat]
def k0_off184 (k0_t1 : Fin k0_t1_loop.trips) : Fin 2 → Nat :=
  let c2128 : Index := 2128#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3106 : Index := Scalar.indexCast v2
  ![2128, v3106.toNat]
def k0_off185 (k0_t1 : Fin k0_t1_loop.trips) : Fin 2 → Nat :=
  let c2592 : Index := 2592#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3127 : Index := Scalar.indexCast v2
  ![2592, v3127.toNat]
def k0_off186 (k0_t1 : Fin k0_t1_loop.trips) : Fin 2 → Nat :=
  let c3056 : Index := 3056#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3148 : Index := Scalar.indexCast v2
  ![3056, v3148.toNat]
def k0_off187 (k0_t1 : Fin k0_t1_loop.trips) : Fin 2 → Nat :=
  let c3520 : Index := 3520#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3169 : Index := Scalar.indexCast v2
  ![3520, v3169.toNat]
def k0_off188 (k0_t1 : Fin k0_t1_loop.trips) : Fin 2 → Nat :=
  let c288 : Index := 288#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3171 : Index := Scalar.indexCast v2
  ![288, v3171.toNat]
def k0_off189 (k0_t1 : Fin k0_t1_loop.trips) : Fin 2 → Nat :=
  let c288_879 : Index := 288#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3198 : Index := Scalar.indexCast v2
  ![288, v3198.toNat]
def k0_off190 (k0_t1 : Fin k0_t1_loop.trips) : Fin 2 → Nat :=
  let c752 : Index := 752#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3219 : Index := Scalar.indexCast v2
  ![752, v3219.toNat]
def k0_off191 (k0_t1 : Fin k0_t1_loop.trips) : Fin 2 → Nat :=
  let c1216 : Index := 1216#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3240 : Index := Scalar.indexCast v2
  ![1216, v3240.toNat]
def k0_off192 (k0_t1 : Fin k0_t1_loop.trips) : Fin 2 → Nat :=
  let c1680 : Index := 1680#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3261 : Index := Scalar.indexCast v2
  ![1680, v3261.toNat]
def k0_off193 (k0_t1 : Fin k0_t1_loop.trips) : Fin 2 → Nat :=
  let c2144 : Index := 2144#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3282 : Index := Scalar.indexCast v2
  ![2144, v3282.toNat]
def k0_off194 (k0_t1 : Fin k0_t1_loop.trips) : Fin 2 → Nat :=
  let c2608 : Index := 2608#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3303 : Index := Scalar.indexCast v2
  ![2608, v3303.toNat]
def k0_off195 (k0_t1 : Fin k0_t1_loop.trips) : Fin 2 → Nat :=
  let c24 : Index := 24#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3314 : Index := Scalar.indexCast v2
  ![24, v3314.toNat]
def k0_off196 (k0_t1 : Fin k0_t1_loop.trips) : Fin 2 → Nat :=
  let c3072 : Index := 3072#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3324 : Index := Scalar.indexCast v2
  ![3072, v3324.toNat]
def k0_off197 (k0_t1 : Fin k0_t1_loop.trips) : Fin 2 → Nat :=
  let c3536 : Index := 3536#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3345 : Index := Scalar.indexCast v2
  ![3536, v3345.toNat]
def k0_off198 (k0_t1 : Fin k0_t1_loop.trips) : Fin 2 → Nat :=
  let c304 : Index := 304#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3347 : Index := Scalar.indexCast v2
  ![304, v3347.toNat]
def k0_off199 (k0_t1 : Fin k0_t1_loop.trips) : Fin 2 → Nat :=
  let c304_928 : Index := 304#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3374 : Index := Scalar.indexCast v2
  ![304, v3374.toNat]
def k0_off200 (k0_t1 : Fin k0_t1_loop.trips) : Fin 2 → Nat :=
  let c6 : Index := 6#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3385 : Index := Scalar.indexCast v2
  ![6, v3385.toNat]
def k0_off201 (k0_t1 : Fin k0_t1_loop.trips) : Fin 2 → Nat :=
  let c768 : Index := 768#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3395 : Index := Scalar.indexCast v2
  ![768, v3395.toNat]
def k0_off202 (k0_t1 : Fin k0_t1_loop.trips) : Fin 2 → Nat :=
  let c1232 : Index := 1232#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3416 : Index := Scalar.indexCast v2
  ![1232, v3416.toNat]
def k0_off203 (k0_t1 : Fin k0_t1_loop.trips) : Fin 2 → Nat :=
  let c1696 : Index := 1696#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3437 : Index := Scalar.indexCast v2
  ![1696, v3437.toNat]
def k0_off204 (k0_t1 : Fin k0_t1_loop.trips) : Fin 2 → Nat :=
  let c2160 : Index := 2160#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3458 : Index := Scalar.indexCast v2
  ![2160, v3458.toNat]
def k0_off205 (k0_t1 : Fin k0_t1_loop.trips) : Fin 2 → Nat :=
  let c2624 : Index := 2624#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3479 : Index := Scalar.indexCast v2
  ![2624, v3479.toNat]
def k0_off206 (k0_t1 : Fin k0_t1_loop.trips) : Fin 2 → Nat :=
  let c3088 : Index := 3088#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3500 : Index := Scalar.indexCast v2
  ![3088, v3500.toNat]
def k0_off207 (k0_t1 : Fin k0_t1_loop.trips) : Fin 2 → Nat :=
  let c3552 : Index := 3552#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3521 : Index := Scalar.indexCast v2
  ![3552, v3521.toNat]
def k0_off208 (k0_t1 : Fin k0_t1_loop.trips) : Fin 2 → Nat :=
  let c320 : Index := 320#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3523 : Index := Scalar.indexCast v2
  ![320, v3523.toNat]
def k0_off209 (k0_t1 : Fin k0_t1_loop.trips) : Fin 2 → Nat :=
  let c320_977 : Index := 320#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3550 : Index := Scalar.indexCast v2
  ![320, v3550.toNat]
def k0_off210 (k0_t1 : Fin k0_t1_loop.trips) : Fin 2 → Nat :=
  let c784 : Index := 784#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3571 : Index := Scalar.indexCast v2
  ![784, v3571.toNat]
def k0_off211 (k0_t1 : Fin k0_t1_loop.trips) : Fin 2 → Nat :=
  let c1248 : Index := 1248#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3592 : Index := Scalar.indexCast v2
  ![1248, v3592.toNat]
def k0_off212 (k0_t1 : Fin k0_t1_loop.trips) : Fin 2 → Nat :=
  let c1712 : Index := 1712#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3613 : Index := Scalar.indexCast v2
  ![1712, v3613.toNat]
def k0_off213 (k0_t1 : Fin k0_t1_loop.trips) : Fin 2 → Nat :=
  let c17 : Index := 17#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3624 : Index := Scalar.indexCast v2
  ![17, v3624.toNat]
def k0_off214 (k0_t1 : Fin k0_t1_loop.trips) : Fin 2 → Nat :=
  let c2176 : Index := 2176#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3634 : Index := Scalar.indexCast v2
  ![2176, v3634.toNat]
def k0_off215 (k0_t1 : Fin k0_t1_loop.trips) : Fin 2 → Nat :=
  let c2640 : Index := 2640#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3655 : Index := Scalar.indexCast v2
  ![2640, v3655.toNat]
def k0_off216 (k0_t1 : Fin k0_t1_loop.trips) : Fin 2 → Nat :=
  let c3104 : Index := 3104#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3676 : Index := Scalar.indexCast v2
  ![3104, v3676.toNat]
def k0_off217 (k0_t1 : Fin k0_t1_loop.trips) : Fin 2 → Nat :=
  let c3568 : Index := 3568#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3697 : Index := Scalar.indexCast v2
  ![3568, v3697.toNat]
def k0_off218 (k0_t1 : Fin k0_t1_loop.trips) : Fin 2 → Nat :=
  let c336 : Index := 336#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3699 : Index := Scalar.indexCast v2
  ![336, v3699.toNat]
def k0_off219 (k0_t1 : Fin k0_t1_loop.trips) : Fin 2 → Nat :=
  let c336_1026 : Index := 336#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3726 : Index := Scalar.indexCast v2
  ![336, v3726.toNat]
def k0_off220 (k0_t1 : Fin k0_t1_loop.trips) : Fin 2 → Nat :=
  let c800 : Index := 800#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3747 : Index := Scalar.indexCast v2
  ![800, v3747.toNat]
def k0_off221 (k0_t1 : Fin k0_t1_loop.trips) : Fin 2 → Nat :=
  let c1264 : Index := 1264#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3768 : Index := Scalar.indexCast v2
  ![1264, v3768.toNat]
def k0_off222 (k0_t1 : Fin k0_t1_loop.trips) : Fin 2 → Nat :=
  let c1728 : Index := 1728#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3789 : Index := Scalar.indexCast v2
  ![1728, v3789.toNat]
def k0_off223 (k0_t1 : Fin k0_t1_loop.trips) : Fin 2 → Nat :=
  let c2192 : Index := 2192#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3810 : Index := Scalar.indexCast v2
  ![2192, v3810.toNat]
def k0_off224 (k0_t1 : Fin k0_t1_loop.trips) : Fin 2 → Nat :=
  let c2656 : Index := 2656#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3831 : Index := Scalar.indexCast v2
  ![2656, v3831.toNat]
def k0_off225 (k0_t1 : Fin k0_t1_loop.trips) : Fin 2 → Nat :=
  let c3120 : Index := 3120#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3852 : Index := Scalar.indexCast v2
  ![3120, v3852.toNat]
def k0_off226 (k0_t1 : Fin k0_t1_loop.trips) : Fin 2 → Nat :=
  let c28 : Index := 28#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3863 : Index := Scalar.indexCast v2
  ![28, v3863.toNat]
def k0_off227 (k0_t1 : Fin k0_t1_loop.trips) : Fin 2 → Nat :=
  let c3584 : Index := 3584#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3873 : Index := Scalar.indexCast v2
  ![3584, v3873.toNat]
def k0_off228 (k0_t1 : Fin k0_t1_loop.trips) : Fin 2 → Nat :=
  let c352 : Index := 352#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3875 : Index := Scalar.indexCast v2
  ![352, v3875.toNat]
def k0_off229 (k0_t1 : Fin k0_t1_loop.trips) : Fin 2 → Nat :=
  let c352_1075 : Index := 352#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3902 : Index := Scalar.indexCast v2
  ![352, v3902.toNat]
def k0_off230 (k0_t1 : Fin k0_t1_loop.trips) : Fin 2 → Nat :=
  let c816 : Index := 816#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3923 : Index := Scalar.indexCast v2
  ![816, v3923.toNat]
def k0_off231 (k0_t1 : Fin k0_t1_loop.trips) : Fin 2 → Nat :=
  let c1280 : Index := 1280#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3944 : Index := Scalar.indexCast v2
  ![1280, v3944.toNat]
def k0_off232 (k0_t1 : Fin k0_t1_loop.trips) : Fin 2 → Nat :=
  let c1744 : Index := 1744#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3965 : Index := Scalar.indexCast v2
  ![1744, v3965.toNat]
def k0_off233 (k0_t1 : Fin k0_t1_loop.trips) : Fin 2 → Nat :=
  let c2208 : Index := 2208#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v3986 : Index := Scalar.indexCast v2
  ![2208, v3986.toNat]
def k0_off234 (k0_t1 : Fin k0_t1_loop.trips) : Fin 2 → Nat :=
  let c2672 : Index := 2672#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4007 : Index := Scalar.indexCast v2
  ![2672, v4007.toNat]
def k0_off235 (k0_t1 : Fin k0_t1_loop.trips) : Fin 2 → Nat :=
  let c3136 : Index := 3136#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4028 : Index := Scalar.indexCast v2
  ![3136, v4028.toNat]
def k0_off236 (k0_t1 : Fin k0_t1_loop.trips) : Fin 2 → Nat :=
  let c3600 : Index := 3600#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4049 : Index := Scalar.indexCast v2
  ![3600, v4049.toNat]
def k0_off237 (k0_t1 : Fin k0_t1_loop.trips) : Fin 2 → Nat :=
  let c368 : Index := 368#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4051 : Index := Scalar.indexCast v2
  ![368, v4051.toNat]
def k0_off238 (k0_t1 : Fin k0_t1_loop.trips) : Fin 2 → Nat :=
  let c368_1125 : Index := 368#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4078 : Index := Scalar.indexCast v2
  ![368, v4078.toNat]
def k0_off239 (k0_t1 : Fin k0_t1_loop.trips) : Fin 2 → Nat :=
  let c832 : Index := 832#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4099 : Index := Scalar.indexCast v2
  ![832, v4099.toNat]
def k0_off240 (k0_t1 : Fin k0_t1_loop.trips) : Fin 2 → Nat :=
  let c1296 : Index := 1296#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4120 : Index := Scalar.indexCast v2
  ![1296, v4120.toNat]
def k0_off241 (k0_t1 : Fin k0_t1_loop.trips) : Fin 2 → Nat :=
  let c1760 : Index := 1760#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4141 : Index := Scalar.indexCast v2
  ![1760, v4141.toNat]
def k0_off242 (k0_t1 : Fin k0_t1_loop.trips) : Fin 2 → Nat :=
  let c2224 : Index := 2224#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4162 : Index := Scalar.indexCast v2
  ![2224, v4162.toNat]
def k0_off243 (k0_t1 : Fin k0_t1_loop.trips) : Fin 2 → Nat :=
  let c2688 : Index := 2688#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4183 : Index := Scalar.indexCast v2
  ![2688, v4183.toNat]
def k0_off244 (k0_t1 : Fin k0_t1_loop.trips) : Fin 2 → Nat :=
  let c3152 : Index := 3152#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4204 : Index := Scalar.indexCast v2
  ![3152, v4204.toNat]
def k0_off245 (k0_t1 : Fin k0_t1_loop.trips) : Fin 2 → Nat :=
  let c3616 : Index := 3616#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4225 : Index := Scalar.indexCast v2
  ![3616, v4225.toNat]
def k0_off246 (k0_t1 : Fin k0_t1_loop.trips) : Fin 2 → Nat :=
  let c384 : Index := 384#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4227 : Index := Scalar.indexCast v2
  ![384, v4227.toNat]
def k0_off247 (k0_t1 : Fin k0_t1_loop.trips) : Fin 2 → Nat :=
  let c384_1175 : Index := 384#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4254 : Index := Scalar.indexCast v2
  ![384, v4254.toNat]
def k0_off248 (k0_t1 : Fin k0_t1_loop.trips) : Fin 2 → Nat :=
  let c848 : Index := 848#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4275 : Index := Scalar.indexCast v2
  ![848, v4275.toNat]
def k0_off249 (k0_t1 : Fin k0_t1_loop.trips) : Fin 2 → Nat :=
  let c1312 : Index := 1312#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4296 : Index := Scalar.indexCast v2
  ![1312, v4296.toNat]
def k0_off250 (k0_t1 : Fin k0_t1_loop.trips) : Fin 2 → Nat :=
  let c1776 : Index := 1776#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4317 : Index := Scalar.indexCast v2
  ![1776, v4317.toNat]
def k0_off251 (k0_t1 : Fin k0_t1_loop.trips) : Fin 2 → Nat :=
  let c2240 : Index := 2240#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4338 : Index := Scalar.indexCast v2
  ![2240, v4338.toNat]
def k0_off252 (k0_t1 : Fin k0_t1_loop.trips) : Fin 2 → Nat :=
  let c2704 : Index := 2704#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4359 : Index := Scalar.indexCast v2
  ![2704, v4359.toNat]
def k0_off253 (k0_t1 : Fin k0_t1_loop.trips) : Fin 2 → Nat :=
  let c3168 : Index := 3168#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4380 : Index := Scalar.indexCast v2
  ![3168, v4380.toNat]
def k0_off254 (k0_t1 : Fin k0_t1_loop.trips) : Fin 2 → Nat :=
  let c3632 : Index := 3632#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4401 : Index := Scalar.indexCast v2
  ![3632, v4401.toNat]
def k0_off255 (k0_t1 : Fin k0_t1_loop.trips) : Fin 2 → Nat :=
  let c400 : Index := 400#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4403 : Index := Scalar.indexCast v2
  ![400, v4403.toNat]
def k0_off256 (k0_t1 : Fin k0_t1_loop.trips) : Fin 2 → Nat :=
  let c400_1225 : Index := 400#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4430 : Index := Scalar.indexCast v2
  ![400, v4430.toNat]
def k0_off257 (k0_t1 : Fin k0_t1_loop.trips) : Fin 2 → Nat :=
  let c864 : Index := 864#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4451 : Index := Scalar.indexCast v2
  ![864, v4451.toNat]
def k0_off258 (k0_t1 : Fin k0_t1_loop.trips) : Fin 2 → Nat :=
  let c1328 : Index := 1328#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4472 : Index := Scalar.indexCast v2
  ![1328, v4472.toNat]
def k0_off259 (k0_t1 : Fin k0_t1_loop.trips) : Fin 2 → Nat :=
  let c1792 : Index := 1792#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4493 : Index := Scalar.indexCast v2
  ![1792, v4493.toNat]
def k0_off260 (k0_t1 : Fin k0_t1_loop.trips) : Fin 2 → Nat :=
  let c2256 : Index := 2256#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4514 : Index := Scalar.indexCast v2
  ![2256, v4514.toNat]
def k0_off261 (k0_t1 : Fin k0_t1_loop.trips) : Fin 2 → Nat :=
  let c2720 : Index := 2720#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4535 : Index := Scalar.indexCast v2
  ![2720, v4535.toNat]
def k0_off262 (k0_t1 : Fin k0_t1_loop.trips) : Fin 2 → Nat :=
  let c3184 : Index := 3184#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4556 : Index := Scalar.indexCast v2
  ![3184, v4556.toNat]
def k0_off263 (k0_t1 : Fin k0_t1_loop.trips) : Fin 2 → Nat :=
  let c3648 : Index := 3648#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4577 : Index := Scalar.indexCast v2
  ![3648, v4577.toNat]
def k0_off264 (k0_t1 : Fin k0_t1_loop.trips) : Fin 2 → Nat :=
  let c416 : Index := 416#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4579 : Index := Scalar.indexCast v2
  ![416, v4579.toNat]
def k0_off265 (k0_t1 : Fin k0_t1_loop.trips) : Fin 2 → Nat :=
  let c416_1275 : Index := 416#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4606 : Index := Scalar.indexCast v2
  ![416, v4606.toNat]
def k0_off266 (k0_t1 : Fin k0_t1_loop.trips) : Fin 2 → Nat :=
  let c880 : Index := 880#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4627 : Index := Scalar.indexCast v2
  ![880, v4627.toNat]
def k0_off267 (k0_t1 : Fin k0_t1_loop.trips) : Fin 2 → Nat :=
  let c1344 : Index := 1344#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4648 : Index := Scalar.indexCast v2
  ![1344, v4648.toNat]
def k0_off268 (k0_t1 : Fin k0_t1_loop.trips) : Fin 2 → Nat :=
  let c1808 : Index := 1808#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4669 : Index := Scalar.indexCast v2
  ![1808, v4669.toNat]
def k0_off269 (k0_t1 : Fin k0_t1_loop.trips) : Fin 2 → Nat :=
  let c2272 : Index := 2272#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4690 : Index := Scalar.indexCast v2
  ![2272, v4690.toNat]
def k0_off270 (k0_t1 : Fin k0_t1_loop.trips) : Fin 2 → Nat :=
  let c2736 : Index := 2736#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4711 : Index := Scalar.indexCast v2
  ![2736, v4711.toNat]
def k0_off271 (k0_t1 : Fin k0_t1_loop.trips) : Fin 2 → Nat :=
  let c3200 : Index := 3200#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4732 : Index := Scalar.indexCast v2
  ![3200, v4732.toNat]
def k0_off272 (k0_t1 : Fin k0_t1_loop.trips) : Fin 2 → Nat :=
  let c3664 : Index := 3664#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4753 : Index := Scalar.indexCast v2
  ![3664, v4753.toNat]
def k0_off273 (k0_t1 : Fin k0_t1_loop.trips) : Fin 2 → Nat :=
  let c432 : Index := 432#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4755 : Index := Scalar.indexCast v2
  ![432, v4755.toNat]
def k0_off274 (k0_t1 : Fin k0_t1_loop.trips) : Fin 2 → Nat :=
  let c432_1325 : Index := 432#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4782 : Index := Scalar.indexCast v2
  ![432, v4782.toNat]
def k0_off275 (k0_t1 : Fin k0_t1_loop.trips) : Fin 2 → Nat :=
  let c896 : Index := 896#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4803 : Index := Scalar.indexCast v2
  ![896, v4803.toNat]
def k0_off276 (k0_t1 : Fin k0_t1_loop.trips) : Fin 2 → Nat :=
  let c1360 : Index := 1360#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4824 : Index := Scalar.indexCast v2
  ![1360, v4824.toNat]
def k0_off277 (k0_t1 : Fin k0_t1_loop.trips) : Fin 2 → Nat :=
  let c1824 : Index := 1824#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4845 : Index := Scalar.indexCast v2
  ![1824, v4845.toNat]
def k0_off278 (k0_t1 : Fin k0_t1_loop.trips) : Fin 2 → Nat :=
  let c2288 : Index := 2288#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4866 : Index := Scalar.indexCast v2
  ![2288, v4866.toNat]
def k0_off279 (k0_t1 : Fin k0_t1_loop.trips) : Fin 2 → Nat :=
  let c2752 : Index := 2752#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4887 : Index := Scalar.indexCast v2
  ![2752, v4887.toNat]
def k0_off280 (k0_t1 : Fin k0_t1_loop.trips) : Fin 2 → Nat :=
  let c3216 : Index := 3216#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4908 : Index := Scalar.indexCast v2
  ![3216, v4908.toNat]
def k0_off281 (k0_t1 : Fin k0_t1_loop.trips) : Fin 2 → Nat :=
  let c3680 : Index := 3680#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4929 : Index := Scalar.indexCast v2
  ![3680, v4929.toNat]
def k0_off282 (k0_t1 : Fin k0_t1_loop.trips) : Fin 2 → Nat :=
  let c448 : Index := 448#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4931 : Index := Scalar.indexCast v2
  ![448, v4931.toNat]
def k0_off283 (k0_t1 : Fin k0_t1_loop.trips) : Fin 2 → Nat :=
  let c448_1375 : Index := 448#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4958 : Index := Scalar.indexCast v2
  ![448, v4958.toNat]
def k0_off284 (k0_t1 : Fin k0_t1_loop.trips) : Fin 2 → Nat :=
  let c912 : Index := 912#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v4979 : Index := Scalar.indexCast v2
  ![912, v4979.toNat]
def k0_off285 (k0_t1 : Fin k0_t1_loop.trips) : Fin 2 → Nat :=
  let c1376 : Index := 1376#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5000 : Index := Scalar.indexCast v2
  ![1376, v5000.toNat]
def k0_off286 (k0_t1 : Fin k0_t1_loop.trips) : Fin 2 → Nat :=
  let c1840 : Index := 1840#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5021 : Index := Scalar.indexCast v2
  ![1840, v5021.toNat]
def k0_off287 (k0_t1 : Fin k0_t1_loop.trips) : Fin 2 → Nat :=
  let c2304 : Index := 2304#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5042 : Index := Scalar.indexCast v2
  ![2304, v5042.toNat]
def k0_off288 (k0_t1 : Fin k0_t1_loop.trips) : Fin 2 → Nat :=
  let c2768 : Index := 2768#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5063 : Index := Scalar.indexCast v2
  ![2768, v5063.toNat]
def k0_off289 (k0_t1 : Fin k0_t1_loop.trips) : Fin 2 → Nat :=
  let c3232 : Index := 3232#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5084 : Index := Scalar.indexCast v2
  ![3232, v5084.toNat]
def k0_off290 (k0_t1 : Fin k0_t1_loop.trips) : Fin 2 → Nat :=
  let c3696 : Index := 3696#32
  let c0_i32 : BitVec 32 := 0#32
  let c1_i32 : BitVec 32 := 1#32
  let arg5 : BitVec 32 := Scf.iv c0_i32 c1_i32 k0_t1
  let c128_i32 : BitVec 32 := 128#32
  let v1 : BitVec 32 := Scalar.muli arg5 c128_i32
  let v2 : BitVec 32 := v1
  let v5105 : Index := Scalar.indexCast v2
  ![3696, v5105.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S464x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S29x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S29x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3712x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S464x14848 : Shape := ⟨2, ![464, 14848]⟩
abbrev S29x14848 : Shape := ⟨2, ![29, 14848]⟩
abbrev S_ : Shape := ⟨0, ![]⟩
abbrev S464 : Shape := ⟨1, ![464]⟩
abbrev S464x1 : Shape := ⟨2, ![464, 1]⟩
abbrev S3712x14848 : Shape := ⟨2, ![3712, 14848]⟩

abbrev nBuf : Space → Nat
  | .hbm => 397
  | .vmem => 0
  | .smem => 0
  | _ => 0

abbrev hbmTy0_0 (i : Nat) : BufTy := match i % 128 with
  | 0 => ⟨S464x14848, .i32⟩
  | 1 => ⟨S29x14848, .bf16⟩
  | 2 => ⟨S29x14848, .bf16⟩
  | 3 => ⟨S464x14848, .i32⟩
  | 4 => ⟨S_, .i32⟩
  | 5 => ⟨S464x14848, .i32⟩
  | 6 => ⟨S464x14848, .i32⟩
  | 7 => ⟨S_, .i32⟩
  | 8 => ⟨S464x14848, .i32⟩
  | 9 => ⟨S464x14848, .i32⟩
  | 10 => ⟨S464x14848, .bf16⟩
  | 11 => ⟨S464, .i32⟩
  | 12 => ⟨S_, .i32⟩
  | 13 => ⟨S464, .i32⟩
  | 14 => ⟨S464, .i32⟩
  | 15 => ⟨S_, .i32⟩
  | 16 => ⟨S_, .i32⟩
  | 17 => ⟨S464, .i32⟩
  | 18 => ⟨S464, .i32⟩
  | 19 => ⟨S464, .i32⟩
  | 20 => ⟨S_, .i32⟩
  | 21 => ⟨S464, .i32⟩
  | 22 => ⟨S464, .i1⟩
  | 23 => ⟨S464, .i32⟩
  | 24 => ⟨S464, .i32⟩
  | 25 => ⟨S_, .i32⟩
  | 26 => ⟨S464, .i32⟩
  | 27 => ⟨S464, .i1⟩
  | 28 => ⟨S464, .i1⟩
  | 29 => ⟨S_, .i32⟩
  | 30 => ⟨S464, .i32⟩
  | 31 => ⟨S464, .i32⟩
  | 32 => ⟨S464, .i32⟩
  | 33 => ⟨S_, .i32⟩
  | 34 => ⟨S464, .i32⟩
  | 35 => ⟨S464, .i1⟩
  | 36 => ⟨S_, .i32⟩
  | 37 => ⟨S464, .i32⟩
  | 38 => ⟨S464, .i32⟩
  | 39 => ⟨S464, .i32⟩
  | 40 => ⟨S464x1, .i32⟩
  | 41 => ⟨S464x14848, .bf16⟩
  | 42 => ⟨S464x14848, .bf16⟩
  | 43 => ⟨S_, .i32⟩
  | 44 => ⟨S464, .i32⟩
  | 45 => ⟨S464, .i1⟩
  | 46 => ⟨S_, .i32⟩
  | 47 => ⟨S464, .i32⟩
  | 48 => ⟨S464, .i32⟩
  | 49 => ⟨S464, .i32⟩
  | 50 => ⟨S464x1, .i32⟩
  | 51 => ⟨S464x14848, .bf16⟩
  | 52 => ⟨S464x14848, .bf16⟩
  | 53 => ⟨S_, .i32⟩
  | 54 => ⟨S464x14848, .i32⟩
  | 55 => ⟨S464x14848, .i32⟩
  | 56 => ⟨S_, .i32⟩
  | 57 => ⟨S464x14848, .i32⟩
  | 58 => ⟨S464x14848, .i32⟩
  | 59 => ⟨S464x14848, .bf16⟩
  | 60 => ⟨S464, .i32⟩
  | 61 => ⟨S_, .i32⟩
  | 62 => ⟨S464, .i32⟩
  | 63 => ⟨S464, .i32⟩
  | 64 => ⟨S_, .i32⟩
  | 65 => ⟨S_, .i32⟩
  | 66 => ⟨S464, .i32⟩
  | 67 => ⟨S464, .i32⟩
  | 68 => ⟨S464, .i32⟩
  | 69 => ⟨S_, .i32⟩
  | 70 => ⟨S464, .i32⟩
  | 71 => ⟨S464, .i1⟩
  | 72 => ⟨S464, .i32⟩
  | 73 => ⟨S464, .i32⟩
  | 74 => ⟨S_, .i32⟩
  | 75 => ⟨S464, .i32⟩
  | 76 => ⟨S464, .i1⟩
  | 77 => ⟨S464, .i1⟩
  | 78 => ⟨S_, .i32⟩
  | 79 => ⟨S464, .i32⟩
  | 80 => ⟨S464, .i32⟩
  | 81 => ⟨S464, .i32⟩
  | 82 => ⟨S_, .i32⟩
  | 83 => ⟨S464, .i32⟩
  | 84 => ⟨S464, .i1⟩
  | 85 => ⟨S_, .i32⟩
  | 86 => ⟨S464, .i32⟩
  | 87 => ⟨S464, .i32⟩
  | 88 => ⟨S464, .i32⟩
  | 89 => ⟨S464x1, .i32⟩
  | 90 => ⟨S464x14848, .bf16⟩
  | 91 => ⟨S464x14848, .bf16⟩
  | 92 => ⟨S_, .i32⟩
  | 93 => ⟨S464, .i32⟩
  | 94 => ⟨S464, .i1⟩
  | 95 => ⟨S_, .i32⟩
  | 96 => ⟨S464, .i32⟩
  | 97 => ⟨S464, .i32⟩
  | 98 => ⟨S464, .i32⟩
  | 99 => ⟨S464x1, .i32⟩
  | 100 => ⟨S464x14848, .bf16⟩
  | 101 => ⟨S464x14848, .bf16⟩
  | 102 => ⟨S_, .i32⟩
  | 103 => ⟨S464x14848, .i32⟩
  | 104 => ⟨S464x14848, .i32⟩
  | 105 => ⟨S_, .i32⟩
  | 106 => ⟨S464x14848, .i32⟩
  | 107 => ⟨S464x14848, .i32⟩
  | 108 => ⟨S464x14848, .bf16⟩
  | 109 => ⟨S464, .i32⟩
  | 110 => ⟨S_, .i32⟩
  | 111 => ⟨S464, .i32⟩
  | 112 => ⟨S464, .i32⟩
  | 113 => ⟨S_, .i32⟩
  | 114 => ⟨S_, .i32⟩
  | 115 => ⟨S464, .i32⟩
  | 116 => ⟨S464, .i32⟩
  | 117 => ⟨S464, .i32⟩
  | 118 => ⟨S_, .i32⟩
  | 119 => ⟨S464, .i32⟩
  | 120 => ⟨S464, .i1⟩
  | 121 => ⟨S464, .i32⟩
  | 122 => ⟨S464, .i32⟩
  | 123 => ⟨S_, .i32⟩
  | 124 => ⟨S464, .i32⟩
  | 125 => ⟨S464, .i1⟩
  | 126 => ⟨S464, .i1⟩
  | 127 => ⟨S_, .i32⟩
  | _ => ⟨S464x14848, .i32⟩

abbrev hbmTy0_1 (i : Nat) : BufTy := match i % 128 with
  | 0 => ⟨S464, .i32⟩
  | 1 => ⟨S464, .i32⟩
  | 2 => ⟨S464, .i32⟩
  | 3 => ⟨S_, .i32⟩
  | 4 => ⟨S464, .i32⟩
  | 5 => ⟨S464, .i1⟩
  | 6 => ⟨S_, .i32⟩
  | 7 => ⟨S464, .i32⟩
  | 8 => ⟨S464, .i32⟩
  | 9 => ⟨S464, .i32⟩
  | 10 => ⟨S464x1, .i32⟩
  | 11 => ⟨S464x14848, .bf16⟩
  | 12 => ⟨S464x14848, .bf16⟩
  | 13 => ⟨S_, .i32⟩
  | 14 => ⟨S464, .i32⟩
  | 15 => ⟨S464, .i1⟩
  | 16 => ⟨S_, .i32⟩
  | 17 => ⟨S464, .i32⟩
  | 18 => ⟨S464, .i32⟩
  | 19 => ⟨S464, .i32⟩
  | 20 => ⟨S464x1, .i32⟩
  | 21 => ⟨S464x14848, .bf16⟩
  | 22 => ⟨S464x14848, .bf16⟩
  | 23 => ⟨S_, .i32⟩
  | 24 => ⟨S464x14848, .i32⟩
  | 25 => ⟨S464x14848, .i32⟩
  | 26 => ⟨S_, .i32⟩
  | 27 => ⟨S464x14848, .i32⟩
  | 28 => ⟨S464x14848, .i32⟩
  | 29 => ⟨S464x14848, .bf16⟩
  | 30 => ⟨S464, .i32⟩
  | 31 => ⟨S_, .i32⟩
  | 32 => ⟨S464, .i32⟩
  | 33 => ⟨S464, .i32⟩
  | 34 => ⟨S_, .i32⟩
  | 35 => ⟨S_, .i32⟩
  | 36 => ⟨S464, .i32⟩
  | 37 => ⟨S464, .i32⟩
  | 38 => ⟨S464, .i32⟩
  | 39 => ⟨S_, .i32⟩
  | 40 => ⟨S464, .i32⟩
  | 41 => ⟨S464, .i1⟩
  | 42 => ⟨S464, .i32⟩
  | 43 => ⟨S464, .i32⟩
  | 44 => ⟨S_, .i32⟩
  | 45 => ⟨S464, .i32⟩
  | 46 => ⟨S464, .i1⟩
  | 47 => ⟨S464, .i1⟩
  | 48 => ⟨S_, .i32⟩
  | 49 => ⟨S464, .i32⟩
  | 50 => ⟨S464, .i32⟩
  | 51 => ⟨S464, .i32⟩
  | 52 => ⟨S_, .i32⟩
  | 53 => ⟨S464, .i32⟩
  | 54 => ⟨S464, .i1⟩
  | 55 => ⟨S_, .i32⟩
  | 56 => ⟨S464, .i32⟩
  | 57 => ⟨S464, .i32⟩
  | 58 => ⟨S464, .i32⟩
  | 59 => ⟨S464x1, .i32⟩
  | 60 => ⟨S464x14848, .bf16⟩
  | 61 => ⟨S464x14848, .bf16⟩
  | 62 => ⟨S_, .i32⟩
  | 63 => ⟨S464, .i32⟩
  | 64 => ⟨S464, .i1⟩
  | 65 => ⟨S_, .i32⟩
  | 66 => ⟨S464, .i32⟩
  | 67 => ⟨S464, .i32⟩
  | 68 => ⟨S464, .i32⟩
  | 69 => ⟨S464x1, .i32⟩
  | 70 => ⟨S464x14848, .bf16⟩
  | 71 => ⟨S464x14848, .bf16⟩
  | 72 => ⟨S_, .i32⟩
  | 73 => ⟨S464x14848, .i32⟩
  | 74 => ⟨S464x14848, .i32⟩
  | 75 => ⟨S_, .i32⟩
  | 76 => ⟨S464x14848, .i32⟩
  | 77 => ⟨S464x14848, .i32⟩
  | 78 => ⟨S464x14848, .bf16⟩
  | 79 => ⟨S464, .i32⟩
  | 80 => ⟨S_, .i32⟩
  | 81 => ⟨S464, .i32⟩
  | 82 => ⟨S464, .i32⟩
  | 83 => ⟨S_, .i32⟩
  | 84 => ⟨S_, .i32⟩
  | 85 => ⟨S464, .i32⟩
  | 86 => ⟨S464, .i32⟩
  | 87 => ⟨S464, .i32⟩
  | 88 => ⟨S_, .i32⟩
  | 89 => ⟨S464, .i32⟩
  | 90 => ⟨S464, .i1⟩
  | 91 => ⟨S464, .i32⟩
  | 92 => ⟨S464, .i32⟩
  | 93 => ⟨S_, .i32⟩
  | 94 => ⟨S464, .i32⟩
  | 95 => ⟨S464, .i1⟩
  | 96 => ⟨S464, .i1⟩
  | 97 => ⟨S_, .i32⟩
  | 98 => ⟨S464, .i32⟩
  | 99 => ⟨S464, .i32⟩
  | 100 => ⟨S464, .i32⟩
  | 101 => ⟨S_, .i32⟩
  | 102 => ⟨S464, .i32⟩
  | 103 => ⟨S464, .i1⟩
  | 104 => ⟨S_, .i32⟩
  | 105 => ⟨S464, .i32⟩
  | 106 => ⟨S464, .i32⟩
  | 107 => ⟨S464, .i32⟩
  | 108 => ⟨S464x1, .i32⟩
  | 109 => ⟨S464x14848, .bf16⟩
  | 110 => ⟨S464x14848, .bf16⟩
  | 111 => ⟨S_, .i32⟩
  | 112 => ⟨S464, .i32⟩
  | 113 => ⟨S464, .i1⟩
  | 114 => ⟨S_, .i32⟩
  | 115 => ⟨S464, .i32⟩
  | 116 => ⟨S464, .i32⟩
  | 117 => ⟨S464, .i32⟩
  | 118 => ⟨S464x1, .i32⟩
  | 119 => ⟨S464x14848, .bf16⟩
  | 120 => ⟨S464x14848, .bf16⟩
  | 121 => ⟨S_, .i32⟩
  | 122 => ⟨S464x14848, .i32⟩
  | 123 => ⟨S464x14848, .i32⟩
  | 124 => ⟨S_, .i32⟩
  | 125 => ⟨S464x14848, .i32⟩
  | 126 => ⟨S464x14848, .i32⟩
  | 127 => ⟨S464x14848, .bf16⟩
  | _ => ⟨S464x14848, .i32⟩

abbrev hbmTy0_2 (i : Nat) : BufTy := match i % 128 with
  | 0 => ⟨S464, .i32⟩
  | 1 => ⟨S_, .i32⟩
  | 2 => ⟨S464, .i32⟩
  | 3 => ⟨S464, .i32⟩
  | 4 => ⟨S_, .i32⟩
  | 5 => ⟨S_, .i32⟩
  | 6 => ⟨S464, .i32⟩
  | 7 => ⟨S464, .i32⟩
  | 8 => ⟨S464, .i32⟩
  | 9 => ⟨S_, .i32⟩
  | 10 => ⟨S464, .i32⟩
  | 11 => ⟨S464, .i1⟩
  | 12 => ⟨S464, .i32⟩
  | 13 => ⟨S464, .i32⟩
  | 14 => ⟨S_, .i32⟩
  | 15 => ⟨S464, .i32⟩
  | 16 => ⟨S464, .i1⟩
  | 17 => ⟨S464, .i1⟩
  | 18 => ⟨S_, .i32⟩
  | 19 => ⟨S464, .i32⟩
  | 20 => ⟨S464, .i32⟩
  | 21 => ⟨S464, .i32⟩
  | 22 => ⟨S_, .i32⟩
  | 23 => ⟨S464, .i32⟩
  | 24 => ⟨S464, .i1⟩
  | 25 => ⟨S_, .i32⟩
  | 26 => ⟨S464, .i32⟩
  | 27 => ⟨S464, .i32⟩
  | 28 => ⟨S464, .i32⟩
  | 29 => ⟨S464x1, .i32⟩
  | 30 => ⟨S464x14848, .bf16⟩
  | 31 => ⟨S464x14848, .bf16⟩
  | 32 => ⟨S_, .i32⟩
  | 33 => ⟨S464, .i32⟩
  | 34 => ⟨S464, .i1⟩
  | 35 => ⟨S_, .i32⟩
  | 36 => ⟨S464, .i32⟩
  | 37 => ⟨S464, .i32⟩
  | 38 => ⟨S464, .i32⟩
  | 39 => ⟨S464x1, .i32⟩
  | 40 => ⟨S464x14848, .bf16⟩
  | 41 => ⟨S464x14848, .bf16⟩
  | 42 => ⟨S_, .i32⟩
  | 43 => ⟨S464x14848, .i32⟩
  | 44 => ⟨S464x14848, .i32⟩
  | 45 => ⟨S_, .i32⟩
  | 46 => ⟨S464x14848, .i32⟩
  | 47 => ⟨S464x14848, .i32⟩
  | 48 => ⟨S464x14848, .bf16⟩
  | 49 => ⟨S464, .i32⟩
  | 50 => ⟨S_, .i32⟩
  | 51 => ⟨S464, .i32⟩
  | 52 => ⟨S464, .i32⟩
  | 53 => ⟨S_, .i32⟩
  | 54 => ⟨S_, .i32⟩
  | 55 => ⟨S464, .i32⟩
  | 56 => ⟨S464, .i32⟩
  | 57 => ⟨S464, .i32⟩
  | 58 => ⟨S_, .i32⟩
  | 59 => ⟨S464, .i32⟩
  | 60 => ⟨S464, .i1⟩
  | 61 => ⟨S464, .i32⟩
  | 62 => ⟨S464, .i32⟩
  | 63 => ⟨S_, .i32⟩
  | 64 => ⟨S464, .i32⟩
  | 65 => ⟨S464, .i1⟩
  | 66 => ⟨S464, .i1⟩
  | 67 => ⟨S_, .i32⟩
  | 68 => ⟨S464, .i32⟩
  | 69 => ⟨S464, .i32⟩
  | 70 => ⟨S464, .i32⟩
  | 71 => ⟨S_, .i32⟩
  | 72 => ⟨S464, .i32⟩
  | 73 => ⟨S464, .i1⟩
  | 74 => ⟨S_, .i32⟩
  | 75 => ⟨S464, .i32⟩
  | 76 => ⟨S464, .i32⟩
  | 77 => ⟨S464, .i32⟩
  | 78 => ⟨S464x1, .i32⟩
  | 79 => ⟨S464x14848, .bf16⟩
  | 80 => ⟨S464x14848, .bf16⟩
  | 81 => ⟨S_, .i32⟩
  | 82 => ⟨S464, .i32⟩
  | 83 => ⟨S464, .i1⟩
  | 84 => ⟨S_, .i32⟩
  | 85 => ⟨S464, .i32⟩
  | 86 => ⟨S464, .i32⟩
  | 87 => ⟨S464, .i32⟩
  | 88 => ⟨S464x1, .i32⟩
  | 89 => ⟨S464x14848, .bf16⟩
  | 90 => ⟨S464x14848, .bf16⟩
  | 91 => ⟨S_, .i32⟩
  | 92 => ⟨S464x14848, .i32⟩
  | 93 => ⟨S464x14848, .i32⟩
  | 94 => ⟨S_, .i32⟩
  | 95 => ⟨S464x14848, .i32⟩
  | 96 => ⟨S464x14848, .i32⟩
  | 97 => ⟨S464x14848, .bf16⟩
  | 98 => ⟨S464, .i32⟩
  | 99 => ⟨S_, .i32⟩
  | 100 => ⟨S464, .i32⟩
  | 101 => ⟨S464, .i32⟩
  | 102 => ⟨S_, .i32⟩
  | 103 => ⟨S_, .i32⟩
  | 104 => ⟨S464, .i32⟩
  | 105 => ⟨S464, .i32⟩
  | 106 => ⟨S464, .i32⟩
  | 107 => ⟨S_, .i32⟩
  | 108 => ⟨S464, .i32⟩
  | 109 => ⟨S464, .i1⟩
  | 110 => ⟨S464, .i32⟩
  | 111 => ⟨S464, .i32⟩
  | 112 => ⟨S_, .i32⟩
  | 113 => ⟨S464, .i32⟩
  | 114 => ⟨S464, .i1⟩
  | 115 => ⟨S464, .i1⟩
  | 116 => ⟨S_, .i32⟩
  | 117 => ⟨S464, .i32⟩
  | 118 => ⟨S464, .i32⟩
  | 119 => ⟨S464, .i32⟩
  | 120 => ⟨S_, .i32⟩
  | 121 => ⟨S464, .i32⟩
  | 122 => ⟨S464, .i1⟩
  | 123 => ⟨S_, .i32⟩
  | 124 => ⟨S464, .i32⟩
  | 125 => ⟨S464, .i32⟩
  | 126 => ⟨S464, .i32⟩
  | 127 => ⟨S464x1, .i32⟩
  | _ => ⟨S464x14848, .i32⟩

abbrev hbmTy0_3 (i : Nat) : BufTy := match i % 128 with
  | 0 => ⟨S464x14848, .bf16⟩
  | 1 => ⟨S464x14848, .bf16⟩
  | 2 => ⟨S_, .i32⟩
  | 3 => ⟨S464, .i32⟩
  | 4 => ⟨S464, .i1⟩
  | 5 => ⟨S_, .i32⟩
  | 6 => ⟨S464, .i32⟩
  | 7 => ⟨S464, .i32⟩
  | 8 => ⟨S464, .i32⟩
  | 9 => ⟨S464x1, .i32⟩
  | 10 => ⟨S464x14848, .bf16⟩
  | 11 => ⟨S464x14848, .bf16⟩
  | 12 => ⟨S3712x14848, .bf16⟩
  | _ => ⟨S464x14848, .i32⟩

abbrev hbmTy (i : Nat) : BufTy := match i / 128 with
  | 0 => hbmTy0_0 i
  | 1 => hbmTy0_1 i
  | 2 => hbmTy0_2 i
  | 3 => hbmTy0_3 i
  | _ => ⟨S464x14848, .i32⟩

abbrev bufTy : (tb : Table) → Fin (tcTables nBuf tb) → BufTy
  | .hbm, ⟨i, _⟩ => hbmTy i
  | _, _ => ⟨S464x14848, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_7 : Ref sig .tc := ⟨.hbm, 53, rfl⟩
abbrev main_v26 : Ref sig .tc := ⟨.hbm, 54, rfl⟩
abbrev main_v27 : Ref sig .tc := ⟨.hbm, 55, rfl⟩
abbrev main_c_8 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_9 : Ref sig .tc := ⟨.hbm, 61, rfl⟩
abbrev main_v32 : Ref sig .tc := ⟨.hbm, 62, rfl⟩
abbrev main_v33 : Ref sig .tc := ⟨.hbm, 63, rfl⟩
abbrev main_c_10 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v34 : Ref sig .tc := ⟨.hbm, 81, rfl⟩
abbrev main_c_11 : Ref sig .tc := ⟨.hbm, 82, rfl⟩
abbrev main_v35 : Ref sig .tc := ⟨.hbm, 83, rfl⟩
abbrev main_v36 : Ref sig .tc := ⟨.hbm, 84, rfl⟩
abbrev main_c_12 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_c_13 : Ref sig .tc := ⟨.hbm, 92, rfl⟩
abbrev main_v43 : Ref sig .tc := ⟨.hbm, 93, rfl⟩
abbrev main_v44 : Ref sig .tc := ⟨.hbm, 94, rfl⟩
abbrev main_c_14 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_c_15 : Ref sig .tc := ⟨.hbm, 102, rfl⟩
abbrev main_v51 : Ref sig .tc := ⟨.hbm, 103, rfl⟩
abbrev main_v52 : Ref sig .tc := ⟨.hbm, 104, rfl⟩
abbrev main_c_16 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_17 : Ref sig .tc := ⟨.hbm, 110, rfl⟩
abbrev main_v57 : Ref sig .tc := ⟨.hbm, 111, rfl⟩
abbrev main_v58 : Ref sig .tc := ⟨.hbm, 112, rfl⟩
abbrev main_c_18 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_c : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_0 : Ref sig .tc := ⟨.hbm, 127, rfl⟩
abbrev main_call2_v12 : Ref sig .tc := ⟨.hbm, 128, rfl⟩
abbrev main_call2_v13 : Ref sig .tc := ⟨.hbm, 129, rfl⟩
abbrev main_v59 : Ref sig .tc := ⟨.hbm, 130, rfl⟩
abbrev main_c_19 : Ref sig .tc := ⟨.hbm, 131, rfl⟩
abbrev main_v60 : Ref sig .tc := ⟨.hbm, 132, rfl⟩
abbrev main_v61 : Ref sig .tc := ⟨.hbm, 133, rfl⟩
abbrev main_c_20 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_c_21 : Ref sig .tc := ⟨.hbm, 141, rfl⟩
abbrev main_v68 : Ref sig .tc := ⟨.hbm, 142, rfl⟩
abbrev main_v69 : Ref sig .tc := ⟨.hbm, 143, rfl⟩
abbrev main_c_22 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_c_23 : Ref sig .tc := ⟨.hbm, 151, rfl⟩
abbrev main_v76 : Ref sig .tc := ⟨.hbm, 152, rfl⟩
abbrev main_v77 : Ref sig .tc := ⟨.hbm, 153, rfl⟩
abbrev main_c_24 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_c_25 : Ref sig .tc := ⟨.hbm, 159, rfl⟩
abbrev main_v82 : Ref sig .tc := ⟨.hbm, 160, rfl⟩
abbrev main_v83 : Ref sig .tc := ⟨.hbm, 161, rfl⟩
abbrev main_c_26 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_c : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_c_0 : Ref sig .tc := ⟨.hbm, 176, rfl⟩
abbrev main_call3_v12 : Ref sig .tc := ⟨.hbm, 177, rfl⟩
abbrev main_call3_v13 : Ref sig .tc := ⟨.hbm, 178, rfl⟩
abbrev main_v84 : Ref sig .tc := ⟨.hbm, 179, rfl⟩
abbrev main_c_27 : Ref sig .tc := ⟨.hbm, 180, rfl⟩
abbrev main_v85 : Ref sig .tc := ⟨.hbm, 181, rfl⟩
abbrev main_v86 : Ref sig .tc := ⟨.hbm, 182, rfl⟩
abbrev main_c_28 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_c_29 : Ref sig .tc := ⟨.hbm, 190, rfl⟩
abbrev main_v93 : Ref sig .tc := ⟨.hbm, 191, rfl⟩
abbrev main_v94 : Ref sig .tc := ⟨.hbm, 192, rfl⟩
abbrev main_c_30 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_c_31 : Ref sig .tc := ⟨.hbm, 200, rfl⟩
abbrev main_v101 : Ref sig .tc := ⟨.hbm, 201, rfl⟩
abbrev main_v102 : Ref sig .tc := ⟨.hbm, 202, rfl⟩
abbrev main_c_32 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_c_33 : Ref sig .tc := ⟨.hbm, 208, rfl⟩
abbrev main_v107 : Ref sig .tc := ⟨.hbm, 209, rfl⟩
abbrev main_v108 : Ref sig .tc := ⟨.hbm, 210, rfl⟩
abbrev main_c_34 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_v6 : Ref sig .tc := ⟨.hbm, 218, rfl⟩
abbrev main_call4_v7 : Ref sig .tc := ⟨.hbm, 219, rfl⟩
abbrev main_call4_v8 : Ref sig .tc := ⟨.hbm, 220, rfl⟩
abbrev main_call4_c : Ref sig .tc := ⟨.hbm, 221, rfl⟩
abbrev main_call4_v9 : Ref sig .tc := ⟨.hbm, 222, rfl⟩
abbrev main_call4_v10 : Ref sig .tc := ⟨.hbm, 223, rfl⟩
abbrev main_call4_v11 : Ref sig .tc := ⟨.hbm, 224, rfl⟩
abbrev main_call4_c_0 : Ref sig .tc := ⟨.hbm, 225, rfl⟩
abbrev main_call4_v12 : Ref sig .tc := ⟨.hbm, 226, rfl⟩
abbrev main_call4_v13 : Ref sig .tc := ⟨.hbm, 227, rfl⟩
abbrev main_v109 : Ref sig .tc := ⟨.hbm, 228, rfl⟩
abbrev main_c_35 : Ref sig .tc := ⟨.hbm, 229, rfl⟩
abbrev main_v110 : Ref sig .tc := ⟨.hbm, 230, rfl⟩
abbrev main_v111 : Ref sig .tc := ⟨.hbm, 231, rfl⟩
abbrev main_c_36 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_c_37 : Ref sig .tc := ⟨.hbm, 239, rfl⟩
abbrev main_v118 : Ref sig .tc := ⟨.hbm, 240, rfl⟩
abbrev main_v119 : Ref sig .tc := ⟨.hbm, 241, rfl⟩
abbrev main_c_38 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_c_39 : Ref sig .tc := ⟨.hbm, 249, rfl⟩
abbrev main_v126 : Ref sig .tc := ⟨.hbm, 250, rfl⟩
abbrev main_v127 : Ref sig .tc := ⟨.hbm, 251, rfl⟩
abbrev main_c_40 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_c_41 : Ref sig .tc := ⟨.hbm, 257, rfl⟩
abbrev main_v132 : Ref sig .tc := ⟨.hbm, 258, rfl⟩
abbrev main_v133 : Ref sig .tc := ⟨.hbm, 259, rfl⟩
abbrev main_c_42 : Ref sig .tc := ⟨.hbm, 260, rfl⟩
abbrev main_call5_v0 : Ref sig .tc := ⟨.hbm, 261, rfl⟩
abbrev main_call5_v1 : Ref sig .tc := ⟨.hbm, 262, rfl⟩
abbrev main_call5_v2 : Ref sig .tc := ⟨.hbm, 263, rfl⟩
abbrev main_call5_v3 : Ref sig .tc := ⟨.hbm, 264, rfl⟩
abbrev main_call5_v4 : Ref sig .tc := ⟨.hbm, 265, rfl⟩
abbrev main_call5_v5 : Ref sig .tc := ⟨.hbm, 266, rfl⟩
abbrev main_call5_v6 : Ref sig .tc := ⟨.hbm, 267, rfl⟩
abbrev main_call5_v7 : Ref sig .tc := ⟨.hbm, 268, rfl⟩
abbrev main_call5_v8 : Ref sig .tc := ⟨.hbm, 269, rfl⟩
abbrev main_call5_c : Ref sig .tc := ⟨.hbm, 270, rfl⟩
abbrev main_call5_v9 : Ref sig .tc := ⟨.hbm, 271, rfl⟩
abbrev main_call5_v10 : Ref sig .tc := ⟨.hbm, 272, rfl⟩
abbrev main_call5_v11 : Ref sig .tc := ⟨.hbm, 273, rfl⟩
abbrev main_call5_c_0 : Ref sig .tc := ⟨.hbm, 274, rfl⟩
abbrev main_call5_v12 : Ref sig .tc := ⟨.hbm, 275, rfl⟩
abbrev main_call5_v13 : Ref sig .tc := ⟨.hbm, 276, rfl⟩
abbrev main_v134 : Ref sig .tc := ⟨.hbm, 277, rfl⟩
abbrev main_c_43 : Ref sig .tc := ⟨.hbm, 278, rfl⟩
abbrev main_v135 : Ref sig .tc := ⟨.hbm, 279, rfl⟩
abbrev main_v136 : Ref sig .tc := ⟨.hbm, 280, rfl⟩
abbrev main_c_44 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_c_45 : Ref sig .tc := ⟨.hbm, 288, rfl⟩
abbrev main_v143 : Ref sig .tc := ⟨.hbm, 289, rfl⟩
abbrev main_v144 : Ref sig .tc := ⟨.hbm, 290, rfl⟩
abbrev main_c_46 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_c_47 : Ref sig .tc := ⟨.hbm, 298, rfl⟩
abbrev main_v151 : Ref sig .tc := ⟨.hbm, 299, rfl⟩
abbrev main_v152 : Ref sig .tc := ⟨.hbm, 300, rfl⟩
abbrev main_c_48 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_c_49 : Ref sig .tc := ⟨.hbm, 306, rfl⟩
abbrev main_v157 : Ref sig .tc := ⟨.hbm, 307, rfl⟩
abbrev main_v158 : Ref sig .tc := ⟨.hbm, 308, rfl⟩
abbrev main_c_50 : Ref sig .tc := ⟨.hbm, 309, rfl⟩
abbrev main_call6_v0 : Ref sig .tc := ⟨.hbm, 310, rfl⟩
abbrev main_call6_v1 : Ref sig .tc := ⟨.hbm, 311, rfl⟩
abbrev main_call6_v2 : Ref sig .tc := ⟨.hbm, 312, rfl⟩
abbrev main_call6_v3 : Ref sig .tc := ⟨.hbm, 313, rfl⟩
abbrev main_call6_v4 : Ref sig .tc := ⟨.hbm, 314, rfl⟩
abbrev main_call6_v5 : Ref sig .tc := ⟨.hbm, 315, rfl⟩
abbrev main_call6_v6 : Ref sig .tc := ⟨.hbm, 316, rfl⟩
abbrev main_call6_v7 : Ref sig .tc := ⟨.hbm, 317, rfl⟩
abbrev main_call6_v8 : Ref sig .tc := ⟨.hbm, 318, rfl⟩
abbrev main_call6_c : Ref sig .tc := ⟨.hbm, 319, rfl⟩
abbrev main_call6_v9 : Ref sig .tc := ⟨.hbm, 320, rfl⟩
abbrev main_call6_v10 : Ref sig .tc := ⟨.hbm, 321, rfl⟩
abbrev main_call6_v11 : Ref sig .tc := ⟨.hbm, 322, rfl⟩
abbrev main_call6_c_0 : Ref sig .tc := ⟨.hbm, 323, rfl⟩
abbrev main_call6_v12 : Ref sig .tc := ⟨.hbm, 324, rfl⟩
abbrev main_call6_v13 : Ref sig .tc := ⟨.hbm, 325, rfl⟩
abbrev main_v159 : Ref sig .tc := ⟨.hbm, 326, rfl⟩
abbrev main_c_51 : Ref sig .tc := ⟨.hbm, 327, rfl⟩
abbrev main_v160 : Ref sig .tc := ⟨.hbm, 328, rfl⟩
abbrev main_v161 : Ref sig .tc := ⟨.hbm, 329, rfl⟩
abbrev main_c_52 : Ref sig .tc := ⟨.hbm, 330, rfl⟩
abbrev main_v162 : Ref sig .tc := ⟨.hbm, 331, rfl⟩
abbrev main_v163 : Ref sig .tc := ⟨.hbm, 332, rfl⟩
abbrev main_v164 : Ref sig .tc := ⟨.hbm, 333, rfl⟩
abbrev main_v165 : Ref sig .tc := ⟨.hbm, 334, rfl⟩
abbrev main_v166 : Ref sig .tc := ⟨.hbm, 335, rfl⟩
abbrev main_v167 : Ref sig .tc := ⟨.hbm, 336, rfl⟩
abbrev main_c_53 : Ref sig .tc := ⟨.hbm, 337, rfl⟩
abbrev main_v168 : Ref sig .tc := ⟨.hbm, 338, rfl⟩
abbrev main_v169 : Ref sig .tc := ⟨.hbm, 339, rfl⟩
abbrev main_c_54 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev main_v174 : Ref sig .tc := ⟨.hbm, 345, rfl⟩
abbrev main_v175 : Ref sig .tc := ⟨.hbm, 346, rfl⟩
abbrev main_c_55 : Ref sig .tc := ⟨.hbm, 347, rfl⟩
abbrev main_v176 : Ref sig .tc := ⟨.hbm, 348, rfl⟩
abbrev main_v177 : Ref sig .tc := ⟨.hbm, 349, rfl⟩
abbrev main_c_56 : Ref sig .tc := ⟨.hbm, 350, rfl⟩
abbrev main_v178 : Ref sig .tc := ⟨.hbm, 351, rfl⟩
abbrev main_v179 : Ref sig .tc := ⟨.hbm, 352, rfl⟩
abbrev main_v180 : Ref sig .tc := ⟨.hbm, 353, rfl⟩
abbrev main_v181 : Ref sig .tc := ⟨.hbm, 354, rfl⟩
abbrev main_c_57 : Ref sig .tc := ⟨.hbm, 355, rfl⟩
abbrev main_v182 : Ref sig .tc := ⟨.hbm, 356, rfl⟩
abbrev main_v183 : Ref sig .tc := ⟨.hbm, 357, rfl⟩
abbrev main_c_58 : Ref sig .tc := ⟨.hbm, 358, rfl⟩
abbrev main_call7_v0 : Ref sig .tc := ⟨.hbm, 359, rfl⟩
abbrev main_call7_v1 : Ref sig .tc := ⟨.hbm, 360, rfl⟩
abbrev main_call7_v2 : Ref sig .tc := ⟨.hbm, 361, rfl⟩
abbrev main_call7_v3 : Ref sig .tc := ⟨.hbm, 362, rfl⟩
abbrev main_call7_v4 : Ref sig .tc := ⟨.hbm, 363, rfl⟩
abbrev main_call7_v5 : Ref sig .tc := ⟨.hbm, 364, rfl⟩
abbrev main_call7_v6 : Ref sig .tc := ⟨.hbm, 365, rfl⟩
abbrev main_call7_v7 : Ref sig .tc := ⟨.hbm, 366, rfl⟩
abbrev main_call7_v8 : Ref sig .tc := ⟨.hbm, 367, rfl⟩
abbrev main_call7_c : Ref sig .tc := ⟨.hbm, 368, rfl⟩
abbrev main_call7_v9 : Ref sig .tc := ⟨.hbm, 369, rfl⟩
abbrev main_call7_v10 : Ref sig .tc := ⟨.hbm, 370, rfl⟩
abbrev main_call7_v11 : Ref sig .tc := ⟨.hbm, 371, rfl⟩
abbrev main_call7_c_0 : Ref sig .tc := ⟨.hbm, 372, rfl⟩
abbrev main_call7_v12 : Ref sig .tc := ⟨.hbm, 373, rfl⟩
abbrev main_call7_v13 : Ref sig .tc := ⟨.hbm, 374, rfl⟩
abbrev main_v184 : Ref sig .tc := ⟨.hbm, 375, rfl⟩
abbrev main_c_59 : Ref sig .tc := ⟨.hbm, 376, rfl⟩
abbrev main_v185 : Ref sig .tc := ⟨.hbm, 377, rfl⟩
abbrev main_v186 : Ref sig .tc := ⟨.hbm, 378, rfl⟩
abbrev main_c_60 : Ref sig .tc := ⟨.hbm, 379, rfl⟩
abbrev main_v187 : Ref sig .tc := ⟨.hbm, 380, rfl⟩
abbrev main_v188 : Ref sig .tc := ⟨.hbm, 381, rfl⟩
abbrev main_v189 : Ref sig .tc := ⟨.hbm, 382, rfl⟩
abbrev main_v190 : Ref sig .tc := ⟨.hbm, 383, rfl⟩
abbrev main_v191 : Ref sig .tc := ⟨.hbm, 384, rfl⟩
abbrev main_v192 : Ref sig .tc := ⟨.hbm, 385, rfl⟩
abbrev main_c_61 : Ref sig .tc := ⟨.hbm, 386, rfl⟩
abbrev main_v193 : Ref sig .tc := ⟨.hbm, 387, rfl⟩
abbrev main_v194 : Ref sig .tc := ⟨.hbm, 388, rfl⟩
abbrev main_c_62 : Ref sig .tc := ⟨.hbm, 389, rfl⟩
abbrev main_v195 : Ref sig .tc := ⟨.hbm, 390, rfl⟩
abbrev main_v196 : Ref sig .tc := ⟨.hbm, 391, rfl⟩
abbrev main_v197 : Ref sig .tc := ⟨.hbm, 392, rfl⟩
abbrev main_v198 : Ref sig .tc := ⟨.hbm, 393, rfl⟩
abbrev main_v199 : Ref sig .tc := ⟨.hbm, 394, rfl⟩
abbrev main_v200 : Ref sig .tc := ⟨.hbm, 395, rfl⟩
abbrev main_v201 : Ref sig .tc := ⟨.hbm, 396, rfl⟩

abbrev nD : Nat := 1
abbrev τ : Topo := Topo.v7x

variable {F : FTy → Type} [FloatOps F]
-- ==== Proof.Pieces.lean ====
/-
  What the kernel's body stores, as one list of pieces.

  The body walks over the four 128-column chunks `k` of its block and, in each, over the 29 sixteen-row chunks `r` of
  the packed words and the 8 fields `f` of a word. Trip `k` makes 232 stores; store `n` is chunk `r = n / 8` and field
  `f = n % 8`. This module names store `n` of trip `k` once (`piece`) and shows that the trip's list is these pieces.
-/
module

public import proofs.«01_k».proof.Proof.Gen.KernelIdeal.Value

@[expose] public section

set_option maxRecDepth 65536
set_option maxHeartbeats 4000000

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-! ## The payload of a store -/

/-- The low (`hi = false`) or high halves of a chunk of packed words, two rows to one 32-bit word. -/
def pairs (w : Vec F S16x128 .i32) (hi : Bool) : IVec S8x128 32 :=
  bitcast S8x128 32
    (trunci 16 (match hi with | false => w | true => shrsi w (broadcast S16x128 16#32)) natLt_16_32)
    bitcasts_S16x128_w16_S8x128_w32

/-- What a store writes: the codes found `s` bits up in the halves of the words `w`, made bfloat16 numbers, less the
    zero points `z`, times the scales `c`. -/
def payload (w : Vec F S16x128 .i32) (hi : Bool) (s : BitVec 32) (z c : Vec F S1x128 .bf16) : FVec F S16x128 .bf16 :=
  mulf
    (subf
      (subf
        (bitcastToFloat .bf16
          (bitcast S16x128 16
            (ori (andi (shrsi (pairs w hi) (broadcast S8x128 s)) (broadcast S8x128 983055#32)) (broadcast S8x128 1124090624#32))
            bitcasts_S8x128_w32_S16x128_w16))
        (broadcast S16x128 (Scalar.ofBits .bf16 0x4300#16)))
      (broadcastTo S16x128 (shapeCast S1x128 z shapeCasts_S1x128_S1x128) broadcasts_S1x128_S16x128))
    (broadcastTo S16x128 (shapeCast S1x128 c shapeCasts_S1x128_S1x128) broadcasts_S1x128_S16x128)

/-! ## Where a store goes and what it reads -/

/-- The first column of trip `k`, as the kernel computes it. -/
def col (k : Fin k0_t1_loop.trips) : ℕ :=
  (Scalar.indexCast (Scalar.muli (Scf.iv 0#32 1#32 k) 128#32)).toNat

/-- It is `128 * k`. -/
theorem col_eq (k : Fin k0_t1_loop.trips) : col k = 128 * k.val := by
  revert k; decide +kernel

theorem trip_lt (k : Fin k0_t1_loop.trips) : k.val < 4 := Nat.lt_of_lt_of_le k.isLt k0_t1_abs.2.1

/-- A rectangle of 128 columns from `col k` on lies in the block when its rows do. -/
theorem inb (k : Fin k0_t1_loop.trips) (h row rows : ℕ) (hrow : row + rows ≤ h) :
    ∀ a, (![row, col k] : Fin 2 → ℕ) a + (![rows, 128] : Fin 2 → ℕ) a ≤ (![h, 512] : Fin 2 → ℕ) a := by
  have hk := trip_lt k
  have hc := col_eq k
  intro a
  match a with
  | ⟨0, _⟩ => exact hrow
  | ⟨1, _⟩ => show col k + 128 ≤ 512; omega

/-- The first row that store `n` writes: field `n % 8` begins at row 464 times the field, chunk `n / 8` 16 times the chunk
    further. -/
def rowOf (n : ℕ) : ℕ := 464 * (n % 8) + 16 * (n / 8)

theorem rowOf_le (n : Fin 232) : rowOf n + 16 ≤ 3712 := by unfold rowOf; omega

theorem group_le (n : Fin 232) : rowOf n / 128 + 1 ≤ 29 := by unfold rowOf; omega

/-- Store `n` of trip `k`, as a piece of the block: sixteen rows by 128 columns, holding the payload of its words and
    of the zero points and scales of its group of 128 rows. -/
def piece (A0 : Vec F S464x512 .i32) (A1 A2 : Vec F S29x512 .bf16) (k : Fin k0_t1_loop.trips) (n : Fin 232) :
    View.Piece (Elt F) S3712x512 .bf16 :=
  ⟨Rect.unit (s := S3712x512) ![rowOf n, col k] S16x128.size (inb k 3712 _ 16 (rowOf_le n)),
    payload
      (View.ld A0 (Rect.unit (s := S464x512) ![16 * (n.val / 8), col k] S16x128.size (inb k 464 _ 16 (by omega))))
      (Nat.ble 4 (n.val % 8)) (BitVec.ofNat 32 (4 * (n.val % 4)))
      (View.ld A2 (Rect.unit (s := S29x512) ![rowOf n / 128, col k] S1x128.size (inb k 29 _ 1 (group_le n))))
      (View.ld A1 (Rect.unit (s := S29x512) ![rowOf n / 128, col k] S1x128.size (inb k 29 _ 1 (group_le n))))⟩

/-- The first `n` stores of trip `k`, last first. -/
def pieces (A0 : Vec F S464x512 .i32) (A1 A2 : Vec F S29x512 .bf16) (k : Fin k0_t1_loop.trips) :
    (n : ℕ) → n ≤ 232 → List (View.Piece (Elt F) S3712x512 .bf16)
  | 0, _ => []
  | n + 1, h => piece A0 A1 A2 k ⟨n, h⟩ :: pieces A0 A1 A2 k n (Nat.le_of_succ_le h)

/-- Each of them is a named store. -/
theorem mem_pieces (A0 : Vec F S464x512 .i32) (A1 A2 : Vec F S29x512 .bf16) (k : Fin k0_t1_loop.trips) :
    ∀ (n : ℕ) (h : n ≤ 232) (p : View.Piece (Elt F) S3712x512 .bf16), p ∈ pieces A0 A1 A2 k n h → ∃ j, p = piece A0 A1 A2 k j
  | 0, _, p, hp => absurd hp List.not_mem_nil
  | n + 1, h, p, hp => by
    rcases List.mem_cons.mp hp with e | hp
    · exact ⟨_, e⟩
    · exact mem_pieces A0 A1 A2 k n _ p hp

/-- The stores of one trip are the named stores. -/
theorem trip_eq (𝒱 : Variants) (c : Dev nD) (bd : Option 𝒱.V) (i : grid0.Coords) (arg1 : Memref sig .tc .vmem S464x512 .i32) (harg1 : arg1.IsWhole) (arg2 : Memref sig .tc .vmem S29x512 .bf16) (harg2 : arg2.IsWhole) (arg3 : Memref sig .tc .vmem S29x512 .bf16) (harg3 : arg3.IsWhole) (arg4 : Memref sig .tc .vmem S3712x512 .bf16) (harg4 : arg4.IsWhole) (X1 : BufTy.Contents (Elt F) arg1.view.ty) (X2 : BufTy.Contents (Elt F) arg2.view.ty) (X3 : BufTy.Contents (Elt F) arg3.view.ty) (k : Fin k0_t1_loop.trips) :
    tripL_k0_t1 (F := F) 𝒱 c bd i arg1 harg1 arg2 harg2 arg3 harg3 arg4 harg4 X1 X2 X3 k
      = pieces (arg1.view.read (Elt F) X1) (arg2.view.read (Elt F) X2) (arg3.view.read (Elt F) X3) k 232 (Nat.le_refl _) := by
  sl_kernel_rfl

end Cert.KernelIdeal.Pieces

end
-- ==== Proof.Nibble.lean ====
/-
  The arithmetic of one code, on words and over the extended reals; it mentions no program.

  A packed 32-bit word holds eight 4-bit codes, code `f` in bits `4 f … 4 f + 3`. The kernel takes the 16-bit half
  that holds the code, shifts it down inside a pair of halves, masks it, sets the bits of the bfloat16 number 128
  above it and reads the 16 bits as a bfloat16 number, which is 128 plus the code; it then subtracts 128. The
  reference shifts and masks the whole word and converts the code to a float.
-/
module

public import Idealize.ShloMosaic.PureOps
public import Idealize.ShloMosaic.PureOps.Ideal
public import Mathlib.Tactic.IntervalCases
public import Mathlib.Tactic.Ring
public import Mathlib.Tactic.NormNum

@[expose] public section

noncomputable section

namespace Cert.Nibble

open Idealize.ShloMosaic

/-- Code `f` of a packed word. -/
def code (w : BitVec 32) (f : ℕ) : BitVec 32 := (w >>> (4 * f)) &&& 15#32

/-- The code's value as an extended real. -/
def value (w : BitVec 32) (f : ℕ) : EReal := (((code w f).toNat : ℝ) : EReal)

/-- The half of a packed word that holds code `f`: the low half for the first four codes, the high half for the
    others. -/
def half (w : BitVec 32) (f : ℕ) : BitVec 16 := if f < 4 then w.setWidth 16 else (w.sshiftRight 16).setWidth 16

theorem code_lt (w : BitVec 32) (f : ℕ) : (code w f).toNat < 16 := by
  unfold code
  rw [BitVec.toNat_and]
  exact lt_of_le_of_lt Nat.and_le_right (by decide)

/-- A code read from its half is the code read from its word. -/
theorem half_code (w : BitVec 32) (f : ℕ) (hf : f < 8) :
    (half w f >>> (4 * (f % 4))) &&& 15#16 = (code w f).setWidth 16 := by
  apply BitVec.eq_of_getLsbD_eq
  intro i hi
  unfold half code
  interval_cases f <;> interval_cases i <;> simp [BitVec.getElem_sshiftRight]

/-- The kernel's word of two codes, cut back into its two halves: each is the bits `0x4300` over the code that its
    half held. -/
theorem pair_bits (hi lo : BitVec 16) (s : ℕ) (hs : s < 4) (p : ℕ) (hp : p < 2) :
    ((((hi ++ lo).sshiftRight (4 * s)) &&& 983055#32) ||| 1124090624#32).extractLsb' (16 * p) 16
      = (((if p = 0 then lo else hi) >>> (4 * s)) &&& 15#16) ||| 0x4300#16 := by
  have e : ∀ j (h : j < 32), (hi ++ lo : BitVec 32)[j] = if j < 16 then lo.getLsbD j else hi.getLsbD (j - 16) := by
    intro j h
    rw [← BitVec.getLsbD_eq_getElem]; exact BitVec.getLsbD_append
  generalize (hi ++ lo : BitVec 32) = w at e ⊢
  apply BitVec.eq_of_getLsbD_eq
  intro i h
  interval_cases s <;> interval_cases p <;> interval_cases i <;>
    simp [BitVec.getElem_sshiftRight, e]

/-- The 16 bits `0x4300` over a code are the bfloat16 number 128 plus the code; less 128, they are the code. -/
theorem biased (n : ℕ) (hn : n < 16) :
    Ideal.ofBits .bf16 (BitVec.ofNat 16 n ||| 0x4300#16) - Ideal.ofBits .bf16 0x4300#16 = ((n : ℝ) : EReal) := by
  have h0 : Ideal.ofBits .bf16 0x4300#16 = ((128 : ℝ) : EReal) := by
    simp [Ideal.ofBits, Ideal.ieee, -EReal.coe_mul]
  have h1 : Ideal.ofBits .bf16 (BitVec.ofNat 16 n ||| 0x4300#16) = ((128 + n : ℝ) : EReal) := by
    interval_cases n <;> simp [Ideal.ofBits, Ideal.ieee, -EReal.coe_mul, -EReal.coe_add] <;> norm_num
  rw [h0, h1]
  show ((128 + n : ℝ) : EReal) - ((128 : ℝ) : EReal) = _
  rw [← EReal.coe_sub]; congr 1; ring

/-- What the kernel computes of one code before it applies zero point and scale. -/
theorem kernel_code (w : BitVec 32) (f : ℕ) (hf : f < 8) :
    Ideal.ofBits .bf16 (((half w f >>> (4 * (f % 4))) &&& 15#16) ||| 0x4300#16) - Ideal.ofBits .bf16 0x4300#16 = value w f := by
  rw [half_code w f hf]
  have h : (code w f).setWidth 16 = BitVec.ofNat 16 (code w f).toNat := by
    apply BitVec.eq_of_toNat_eq; simp
  rw [h, biased _ (code_lt w f)]; rfl

end Cert.Nibble

end
-- ==== Proof.Block.lean ====
/-
  What a store of the kernel writes, element by element, on the extended reals: the code of its word and field, less the
  zero point, times the scale.
-/
module

public import proofs.«01_k».proof.Proof.Pieces
public import proofs.«01_k».proof.Proof.Nibble
public import Idealize.ShloMosaic.Lib.BitcastPair
public import Idealize.ShloMosaic.Lib.ValueIdxCore

@[expose] public section

set_option maxRecDepth 65536

noncomputable section

namespace Cert.KernelIdeal.Pieces

open Cert.KernelIdeal Cert.KernelIdeal.Gen Idealize.ShloMosaic Idealize.ShloMosaic.TcCoe Idealize.SL.Sem Idealize.ShloMosaic.ValueIdx

/-- The halves that a store of field `f` reads. -/
theorem trunc_half (w : Vec Ideal S16x128 .i32) (f : ℕ) (hf : f < 8) (x : S16x128.Idx) :
    trunci 16 (match Nat.ble 4 f with | false => w | true => shrsi w (broadcast S16x128 16#32)) natLt_16_32 x
      = Nibble.half (w x) f := by
  unfold Nibble.half
  interval_cases f <;> rfl

/-- Two rows of a half-word chunk, paired into one word, is the word of the two rows: element `x` of the chunk lies in
    word `row / 2`, and is the low or the high half as `row` is even or odd. -/
theorem paired (t : IVec S16x128 16) (x : S16x128.Idx) (s : ℕ) (hs : s < 4) :
    bitcast S16x128 16
        (fun j => ((bitcast S8x128 32 t bitcasts_S16x128_w16_S8x128_w32 j).sshiftRight (4 * s) &&& 983055#32) ||| 1124090624#32)
        bitcasts_S8x128_w32_S16x128_w16 x
      = ((t x >>> (4 * s)) &&& 15#16) ||| 0x4300#16 := by
  rw [bitcast_32_16]
  rw [bitcast_16_32, Nibble.pair_bits _ _ s hs _ (Nat.mod_lt _ (by decide))]
  congr 3
  have hr : ∀ (y : S16x128.Idx), S16x128.row y = (y 0).val := fun y => rfl
  have hr' : ∀ (y : S8x128.Idx), S8x128.row y = (y 0).val := fun y => rfl
  split
  · rename_i h
    congr 1
    refine Shape.idx_ext₂ ?_ ?_
    · rw [Shape.Bitcasts.srcIdx_row _ _ _ _ 0 rfl, hr', Shape.Bitcasts.srcIdx_row _ _ _ _ 0 rfl]
      rw [hr] at h ⊢; omega
    · rw [Shape.Bitcasts.srcIdx_other _ _ _ _ 1 (by decide)]
      exact Shape.Bitcasts.srcIdx_other _ _ _ _ 1 (by decide)
  · rename_i h
    congr 1
    refine Shape.idx_ext₂ ?_ ?_
    · rw [Shape.Bitcasts.srcIdx_row _ _ _ _ 0 rfl, hr', Shape.Bitcasts.srcIdx_row _ _ _ _ 0 rfl]
      rw [hr] at h ⊢; omega
    · rw [Shape.Bitcasts.srcIdx_other _ _ _ _ 1 (by decide)]
      exact Shape.Bitcasts.srcIdx_other _ _ _ _ 1 (by decide)

/-- A shift by a literal below the width. -/
theorem shrsi_lit (s : ℕ) (hs : s < 4) (v : BitVec 32) :
    IntOp.shrsi .vector v (BitVec.ofNat 32 (4 * s)) = v.sshiftRight (4 * s) := by
  interval_cases s <;> rfl

/-- What a store of field `f` writes at `x`. -/
theorem payload_apply (w : Vec Ideal S16x128 .i32) (f : ℕ) (hf : f < 8) (z c : Vec Ideal S1x128 .bf16) (x : S16x128.Idx) :
    payload w (Nat.ble 4 f) (BitVec.ofNat 32 (4 * (f % 4))) z c x
      = ((Nibble.value (w x) f - (z (ix2 0 (x 1)) : EReal)) * (c (ix2 0 (x 1)) : EReal) : EReal) := by
  have hs : f % 4 < 4 := Nat.mod_lt _ (by decide)
  have hb : ∀ v : Vec Ideal S1x128 .bf16,
      broadcastTo S16x128 (shapeCast S1x128 v shapeCasts_S1x128_S1x128) broadcasts_S1x128_S16x128 x = v (ix2 0 (x 1)) := by
    intro v
    rw [shapeCast_self]
    refine broadcastTo_apply v _ x _ fun a => ?_
    match a with
    | ⟨0, _⟩ => rfl
    | ⟨1, _⟩ => rfl
  have hcode : (bitcast S16x128 16
            (ori (andi (shrsi (pairs w (Nat.ble 4 f)) (broadcast S8x128 (BitVec.ofNat 32 (4 * (f % 4))))) (broadcast S8x128 983055#32)) (broadcast S8x128 1124090624#32))
            bitcasts_S8x128_w32_S16x128_w16) x = ((Nibble.half (w x) f >>> (4 * (f % 4))) &&& 15#16) ||| 0x4300#16 := by
    rw [← trunc_half w f hf x, ← paired _ x (f % 4) hs]
    congr 1
    funext j
    show (IntOp.shrsi .vector _ (BitVec.ofNat 32 (4 * (f % 4))) &&& 983055#32) ||| 1124090624#32 = _
    rw [shrsi_lit _ hs]; rfl
  show ((Ideal.ofBits .bf16 ((bitcast S16x128 16
            (ori (andi (shrsi (pairs w (Nat.ble 4 f)) (broadcast S8x128 (BitVec.ofNat 32 (4 * (f % 4))))) (broadcast S8x128 983055#32)) (broadcast S8x128 1124090624#32))
            bitcasts_S8x128_w32_S16x128_w16) x) - Ideal.ofBits .bf16 0x4300#16
      - broadcastTo S16x128 (shapeCast S1x128 z shapeCasts_S1x128_S1x128) broadcasts_S1x128_S16x128 x)
      * broadcastTo S16x128 (shapeCast S1x128 c shapeCasts_S1x128_S1x128) broadcasts_S1x128_S16x128 x : EReal) = _
  rw [hcode, Nibble.kernel_code _ f hf, hb, hb]

end Cert.KernelIdeal.Pieces

end
-- ==== Proof.Spec.lean ====
/-
  The weights that the packed words, the scales and the zero points denote, over the extended reals.
-/
module

public import proofs.«01_k».proof.Proof.Nibble
public import Idealize.ShloMosaic.Lib.ValueIdxCore

@[expose] public section

noncomputable section

namespace Cert

open Idealize.ShloMosaic Idealize.ShloMosaic.ValueIdx

/-- The dequantized weights of `C` columns: row `i` is field `i / 464` of word row `i % 464`, less the zero point and
    times the scale of its group `i / 128`. -/
def dequant {C : ℕ} (w : (⟨2, ![464, C]⟩ : Shape).Idx → BitVec 32) (scales zeros : (⟨2, ![29, C]⟩ : Shape).Idx → EReal) :
    (⟨2, ![3712, C]⟩ : Shape).Idx → EReal := fun i =>
  have h : (i 0).val < 3712 := idx2_lt0 i
  (Nibble.value (w (ix2 ⟨(i 0).val % 464, Nat.mod_lt _ (by decide)⟩ (i 1))) ((i 0).val / 464)
      - zeros (ix2 ⟨(i 0).val / 128, by omega⟩ (i 1)))
    * scales (ix2 ⟨(i 0).val / 128, by omega⟩ (i 1))

/-- Two arrays of weights agree at two elements of one row when the words, scales and zero points of the two columns do. -/
theorem dequant_congr {C C' : ℕ} {w : (⟨2, ![464, C]⟩ : Shape).Idx → BitVec 32} {w' : (⟨2, ![464, C']⟩ : Shape).Idx → BitVec 32}
    {s z : (⟨2, ![29, C]⟩ : Shape).Idx → EReal} {s' z' : (⟨2, ![29, C']⟩ : Shape).Idx → EReal}
    {i : (⟨2, ![3712, C]⟩ : Shape).Idx} {i' : (⟨2, ![3712, C']⟩ : Shape).Idx} (h0 : (i 0).val = (i' 0).val)
    (hw : ∀ r, w (ix2 r (i 1)) = w' (ix2 r (i' 1))) (hs : ∀ r, s (ix2 r (i 1)) = s' (ix2 r (i' 1)))
    (hz : ∀ r, z (ix2 r (i 1)) = z' (ix2 r (i' 1))) : dequant w s z i = dequant w' s' z' i' := by
  unfold dequant
  dsimp only
  rw [hw, hs, hz]
  simp only [h0]

end Cert

end
-- ==== Proof.Array.lean ====
/-
  What the kernel leaves in its result, on the extended reals: the dequantized weights. First the block of one grid
  point, whose stores are the named pieces; then the whole array, whose 29 blocks of 512 columns tile it.
-/
module

public import proofs.«01_k».proof.Proof.Block
public import proofs.«01_k».proof.Proof.Spec
public import Idealize.ShloMosaic.Lib.Pipeline.ValueKit

@[expose] public section

set_option maxRecDepth 65536

noncomputable section

namespace Cert.KernelIdeal.Pieces

open Cert.KernelIdeal Cert.KernelIdeal.Gen Idealize.ShloMosaic Idealize.ShloMosaic.TcCoe Idealize.ShloMosaic.Tactic Idealize.SL.Sem Idealize.ShloMosaic.ValueIdx
open Idealize.ShloMosaic.Pipeline (Dat)

/-- A named store writes the dequantized weights of its rectangle. -/
theorem piece_apply (A0 : Vec Ideal S464x512 .i32) (A1 A2 : Vec Ideal S29x512 .bf16) (k : Fin k0_t1_loop.trips) (n : Fin 232)
    (x : S16x128.Idx) :
    (piece A0 A1 A2 k n).2 x = dequant A0 A1 A2 ((piece A0 A1 A2 k n).1.emb x) := by
  have hm : n.val % 4 = (n.val % 8) % 4 := by omega
  have hx0 : (x 0).val < 16 := idx2_lt0 x
  have e0 : ((piece A0 A1 A2 k n).1.emb x 0 : ℕ) = rowOf n + (x 0).val := by
    show rowOf n + 1 * (x 0).val = _; omega
  have e1 : ((piece A0 A1 A2 k n).1.emb x 1 : ℕ) = col k + (x 1).val := by
    show col k + 1 * (x 1).val = _; omega
  show payload _ (Nat.ble 4 (n.val % 8)) (BitVec.ofNat 32 (4 * (n.val % 4))) _ _ x = _
  rw [hm, payload_apply _ _ (Nat.mod_lt _ (by decide))]
  have hf : ((piece A0 A1 A2 k n).1.emb x 0 : ℕ) / 464 = n.val % 8 := by
    rw [e0]; unfold rowOf; omega
  have hg : ((piece A0 A1 A2 k n).1.emb x 0 : ℕ) / 128 = rowOf n / 128 := by
    rw [e0]; unfold rowOf; omega
  have hw : ((piece A0 A1 A2 k n).1.emb x 0 : ℕ) % 464 = 16 * (n.val / 8) + (x 0).val := by
    rw [e0]; unfold rowOf; omega
  unfold dequant
  dsimp only
  rw [hf]
  congr 2
  · congr 1
    refine congrArg A0 (Shape.idx_ext₂ ?_ ?_)
    · show 16 * (n.val / 8) + 1 * (x 0).val = _ % 464
      rw [hw]; omega
    · show col k + 1 * (x 1).val = _
      exact (e1.trans (by omega)).symm
  · refine congrArg A2 (Shape.idx_ext₂ ?_ ?_)
    · show rowOf n / 128 + 1 * 0 = _ / 128
      rw [hg]; omega
    · show col k + 1 * (x 1).val = _
      exact (e1.trans (by omega)).symm
  · refine congrArg A1 (Shape.idx_ext₂ ?_ ?_)
    · show rowOf n / 128 + 1 * 0 = _ / 128
      rw [hg]; omega
    · show col k + 1 * (x 1).val = _
      exact (e1.trans (by omega)).symm

/-- The stores of the trips before `n` are named stores. -/
theorem mem_trips {F : FTy → Type} [FloatOps F] (𝒱 : Variants) (c : Dev nD) (bd : Option 𝒱.V) (i : grid0.Coords) (arg1 : Memref sig .tc .vmem S464x512 .i32) (harg1 : arg1.IsWhole) (arg2 : Memref sig .tc .vmem S29x512 .bf16) (harg2 : arg2.IsWhole) (arg3 : Memref sig .tc .vmem S29x512 .bf16) (harg3 : arg3.IsWhole) (arg4 : Memref sig .tc .vmem S3712x512 .bf16) (harg4 : arg4.IsWhole)
    (x0 : Vec F S464x512 .i32) (x1 : Vec F S29x512 .bf16) (x2 : Vec F S29x512 .bf16) (p : View.Piece (Elt F) S3712x512 .bf16) :
    ∀ n, n ≤ k0_t1_loop.trips →
      p ∈ pb_k0_t1 (F := F) 𝒱 c bd i arg1 harg1 arg2 harg2 arg3 harg3 arg4 harg4 (harg1.unread x0) (harg2.unread x1) (harg3.unread x2) n →
      ∃ k j, p = piece x0 x1 x2 k j
  | 0, _, hp => absurd hp List.not_mem_nil
  | n + 1, h, hp => by
    rw [pb_k0_t1_succ (F := F) 𝒱 c bd i arg1 harg1 arg2 harg2 arg3 harg3 arg4 harg4 _ _ _ ⟨n, h⟩, List.mem_append] at hp
    rcases hp with hp | hp
    · rw [trip_eq, harg1.read_unread, harg2.read_unread, harg3.read_unread] at hp
      exact ⟨_, mem_pieces _ _ _ _ _ _ _ hp⟩
    · exact mem_trips 𝒱 c bd i arg1 harg1 arg2 harg2 arg3 harg3 arg4 harg4 x0 x1 x2 p n (Nat.le_of_succ_le h) hp

/-- What a grid point leaves in its output block: the dequantized weights of its input blocks. -/
theorem block_eq (c : Dev nD) (i : grid0.Coords) (arg1 : Memref sig .tc .vmem S464x512 .i32) (harg1 : arg1.IsWhole) (arg2 : Memref sig .tc .vmem S29x512 .bf16) (harg2 : arg2.IsWhole) (arg3 : Memref sig .tc .vmem S29x512 .bf16) (harg3 : arg3.IsWhole) (arg4 : Memref sig .tc .vmem S3712x512 .bf16) (harg4 : arg4.IsWhole)
    (x0 : Vec Ideal S464x512 .i32) (x1 : Vec Ideal S29x512 .bf16) (x2 : Vec Ideal S29x512 .bf16) :
    out0_A_3 (F := Ideal) c i arg1 harg1 arg2 harg2 arg3 harg3 arg4 harg4 x0 x1 x2 = dequant x0 x1 x2 := by
  unfold out0_A_3
  rw [View.read_writes_eq_canon _ _ _ (cover0_A_3 c i arg1 harg1 arg2 harg2 arg3 harg3 arg4 harg4 x0 x1 x2)]
  funext y
  refine View.canon_apply_of_pieces (Val := Elt Ideal) (e := .bf16) (dequant x0 x1 x2) _ ?_ y
    (cover0_A_3 c i arg1 harg1 arg2 harg2 arg3 harg3 arg4 harg4 x0 x1 x2 y)
  unfold kernelRun0_A
  dsimp only
  intro p hp
  obtain ⟨k, j, rfl⟩ := mem_trips _ c _ i arg1 harg1 arg2 harg2 arg3 harg3 arg4 harg4 x0 x1 x2 p _ (Nat.le_refl _) hp
  exact piece_apply x0 x1 x2 k j

variable (m : (ℓ : Loc nD τ sig) → Buf (Elt Ideal) ℓ)

/-- Every window's block at point `t` is columns `512 * t` on, all rows. -/
theorem idx : ∀ t : Fin grid0.N, (win0_0.index t = ![0, (grid0.coords t 0).val] ∧ win0_1.index t = ![0, (grid0.coords t 0).val])
    ∧ win0_2.index t = ![0, (grid0.coords t 0).val] ∧ win0_3.index t = ![0, (grid0.coords t 0).val] := by
  decide +kernel

/-- The result array after the run: the dequantized weights of the arguments. -/
theorem final (c : Dev nD) :
    (dats m 0 c).arrAt 3 cfg0.N
      = dequant (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [block_eq]
  have e1 : ((win0_3.blk t).view.emb y 1 : ℕ) = (grid0.coords t 0).val * 512 + (y 1).val := by
    blk_simp [(idx t).2.2]
  refine dequant_congr ?_ (fun r => ?_) (fun r => ?_) (fun r => ?_)
  · blk_simp [(idx t).2.2]
  · blk_ext [iblk, V, (idx t).1.1, (idx t).2.2]; exact e1.symm
  · blk_ext [iblk, V, (idx t).1.2, (idx t).2.2]; exact e1.symm
  · blk_ext [iblk, V, (idx t).2.1, (idx t).2.2]; exact e1.symm

end Cert.KernelIdeal.Pieces

end
-- ==== Proof.Reference.lean ====
/-
  What the reference computes, on the extended reals: the dequantized weights. Its result is eight fields laid end to
  end; each is named once, as a function of the bits to shift by and of the first row, and read at an index.
-/
module

public import proofs.«01_k».proof.Proof.Spec
public import proofs.«01_k».proof.Proof.Gen.ReferenceIdeal.Run
public import Idealize.ShloMosaic.Lib.Pipeline.Value
public import Mathlib.Tactic.FinCases

@[expose] public section

set_option maxRecDepth 65536

noncomputable section

namespace Cert.ReferenceIdeal.Fields

open Cert.ReferenceIdeal Cert.ReferenceIdeal.Gen Cert.ReferenceIdeal.Value Idealize.ShloMosaic Idealize.ShloMosaic.TcCoe Idealize.ShloMosaic.ValueIdx Idealize.ShloMosaic.StableHlo

/-! ## Whole rows gathered -/

/-- A gather of whole rows reads, at `(r, c)`, column `c` of the row that the index vector names at `r`. -/
theorem gather_apply (x : S29x14848.Idx → EReal) (starts : IVec S464x1 32) (y : S464x14848.Idx) (g : Fin 29)
    (hg : (starts (ix2 (y 0) 0)).toInt.toNat = g.val) :
    Host.gather gather_S29x14848_S464x1_S464x14848_1_0_n_n_0_1_114848 x starts y = x (ix2 g (y 1)) := by
  unfold Host.gather
  congr 1
  funext a
  refine Fin.ext ?_
  show GatherDims.start _ y starts a + GatherDims.batchCoord _ y a + GatherDims.offCoord _ y a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S29x14848_S464x1_S464x14848_1_0_n_n_0_1_114848.startIndexMap from List.mem_singleton.mpr rfl)]
    have hsi : ∀ k, gather_S29x14848_S464x1_S464x14848_1_0_n_n_0_1_114848.siIdx y k = ix2 (y 0) 0 := by
      intro k
      funext b; refine Fin.ext ?_
      match b with
      | ⟨0, _⟩ => rfl
      | ⟨1, _⟩ => exact Nat.lt_one_iff.mp (Fin.isLt _)
    rw [hsi]
    exact (congrArg (min · 28) hg).trans (min_eq_left (by omega))
  · unfold GatherDims.start
    rw [dif_neg (by decide)]
    unfold GatherDims.offCoord
    rw [dif_pos (by decide)]
    show 0 + 0 + (y 1).val = (y 1).val
    omega

/-! ## One field -/

/-- A word in every entry of a vector of 464. -/
abbrev all (b : BitVec 32) : IVec S464 32 := broadcastInDim S464 ![] bcast_S_S464 (constantI S_ 32 b)

/-- A word in every entry of a 464-by-14848 array. -/
abbrev every (b : BitVec 32) : IVec S464x14848 32 := broadcastInDim S464x14848 ![] bcast_S_S464x14848 (constantI S_ 32 b)

/-- The rows `b`, `b + 1`, … of the result. -/
abbrev rows (b : BitVec 32) : IVec S464 32 := addi (all b) (iotaInDim S464 32 0)

/-- Their groups: the floor of the row over 128. -/
def groups (b : BitVec 32) : IVec S464 32 :=
  select (andi (cmpi .ne (signi (rows b)) (broadcastInDim S464 ![] bcast_S_S464 (signi (constantI S_ 32 128#32))))
      (cmpi .ne (Host.remsi (rows b) (all 128#32)) (all 0#32)))
    (subi (Host.divsi (rows b) (all 128#32)) (all 1#32)) (Host.divsi (rows b) (all 128#32))

/-- The groups as row indices of the scales and zero points, a negative one counted from the end. -/
def starts (b : BitVec 32) : IVec S464x1 32 :=
  broadcastInDim S464x1 ![0] bcast_S464_S464x1_0
    (select (cmpi .slt (groups b) (all 0#32)) (addi (groups b) (all 29#32)) (groups b))

/-- The field `s` bits up in each word, less its zero point and times its scale, as rows `b`, `b + 1`, … of the result. -/
def field (w : IVec S464x14848 32) (scales zeros : FVec Ideal S29x14848 .bf16) (s b : BitVec 32) : FVec Ideal S464x14848 .bf16 :=
  mulf (subf (uitofp .bf16 (andi (Host.shrui w (every s)) (every 15#32)))
      (Host.gather gather_S29x14848_S464x1_S464x14848_1_0_n_n_0_1_114848 zeros (starts b)))
    (Host.gather gather_S29x14848_S464x1_S464x14848_1_0_n_n_0_1_114848 scales (starts b))

/-- The row index of field `f` at word row `r` is the group of result row `464 f + r`. -/
theorem starts_apply (f : Fin 8) (r : Fin 464) :
    (starts (BitVec.ofNat 32 (464 * f.val)) (ix2 r 0)).toInt.toNat = (464 * f.val + r.val) / 128 := by
  revert f r
  decide +kernel

/-- Field `f` read at an element: the code there, less the zero point and times the scale of its group. -/
theorem field_apply (w : IVec S464x14848 32) (scales zeros : FVec Ideal S29x14848 .bf16) (f : Fin 8) (y : S464x14848.Idx)
    (g : Fin 29) (hg : (464 * f.val + (y 0).val) / 128 = g.val) :
    field w scales zeros (BitVec.ofNat 32 (4 * f.val)) (BitVec.ofNat 32 (464 * f.val)) y
      = (Nibble.value (w y) f.val - zeros (ix2 g (y 1))) * scales (ix2 g (y 1)) := by
  have hs := (starts_apply f (y 0)).trans hg
  have hc : IntOp.shrui .host (w y) (BitVec.ofNat 32 (4 * f.val)) &&& 15#32 = Nibble.code (w y) f.val := by
    have h : ∀ (k : Fin 8) (v : BitVec 32), IntOp.shrui .host v (BitVec.ofNat 32 (4 * k.val)) = v >>> (4 * k.val) := by
      intro k v
      fin_cases k <;> rfl
    rw [h]; rfl
  show ((((IntOp.shrui .host (w y) (BitVec.ofNat 32 (4 * f.val)) &&& 15#32).toNat : ℝ) : EReal)
    - Host.gather _ zeros _ y) * Host.gather _ scales _ y = _
  rw [gather_apply _ _ _ g hs, gather_apply _ _ _ g hs, hc]
  rfl

/-! ## The fields laid end to end -/

/-- The reference's result is the eight fields laid end to end. -/
theorem result_eq (V0 : Valuation τ sig (Elt Ideal)) :
    res_main_v201 V0 = concatenate S3712x14848 0
      (List.ofFn fun f : Fin 8 => ⟨S464x14848, field (V0 (Proc.devRef .tc main_arg0)) (V0 (Proc.devRef .tc main_arg1))
        (V0 (Proc.devRef .tc main_arg2)) (BitVec.ofNat 32 (4 * f.val)) (BitVec.ofNat 32 (464 * f.val))⟩)
      concatenates_S464x14848_S464x14848_S464x14848_S464x14848_S464x14848_S464x14848_S464x14848_S464x14848_S3712x14848_d0 := by
  rfl

/-- The reference's result is the dequantized weights. -/
theorem result (V0 : Valuation τ sig (Elt Ideal)) :
    res_main_v201 V0 = dequant (V0 (Proc.devRef .tc main_arg0)) (V0 (Proc.devRef .tc main_arg1)) (V0 (Proc.devRef .tc main_arg2)) := by
  rw [result_eq]
  funext j
  have hj : (j 0).val < 3712 := idx2_lt0 j
  have hf : (j 0).val / 464 < 8 := by omega
  have e := concatenate_ofFn_apply (s₁ := S464x14848) (t := S3712x14848) 0
    (fun f : Fin 8 => field (V0 (Proc.devRef .tc main_arg0)) (V0 (Proc.devRef .tc main_arg1))
        (V0 (Proc.devRef .tc main_arg2)) (BitVec.ofNat 32 (4 * f.val)) (BitVec.ofNat 32 (464 * f.val)))
    concatenates_S464x14848_S464x14848_S464x14848_S464x14848_S464x14848_S464x14848_S464x14848_S464x14848_S3712x14848_d0
    rfl 464 rfl j ⟨(j 0).val / 464, hf⟩ rfl (ix2 ⟨(j 0).val % 464, Nat.mod_lt _ (by decide)⟩ (j 1)) rfl
    (fun b hb => by
      match b with
      | ⟨0, _⟩ => exact absurd rfl hb
      | ⟨1, _⟩ => rfl)
  refine e.trans ?_
  have hg : (464 * ((j 0).val / 464) + (j 0).val % 464) / 128 = (j 0).val / 128 := by omega
  exact field_apply _ _ _ ⟨(j 0).val / 464, hf⟩ _ ⟨(j 0).val / 128, by omega⟩ hg

end Cert.ReferenceIdeal.Fields

end
-- ==== Proof.lean ====
/-
  The certificate of `Cert.Claim`: the program, its reading over the extended reals and the reference each run to the
  end, leave their arguments as they were and every semaphore counter at zero; and from equal arguments the program and
  the reference end with equal results, which are the dequantized weights (`Cert.dequant`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to the end, leaves its arguments as they were, and has no semaphore that could end above zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run m ρ)

/-- From equal arguments the program and the reference both end with the dequantized weights. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨fun c => Cert.dequant (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    (θ_run Cert.KernelIdeal.defs _ _).mono (fun _ h c => ⟨(h c).1.trans (Cert.KernelIdeal.Pieces.final m c), (h c).2⟩)
      (Cert.KernelIdeal.Value.run_blocks m ρ),
    (θ_run Cert.ReferenceIdeal.defs _ _).mono (fun _ h c => ⟨(h c).1.trans ((Cert.ReferenceIdeal.Fields.result _).trans (by
        obtain ⟨h0, h1, h2⟩ := hargs c
        exact congr (congr (congrArg Cert.dequant h0) h1) h2)), (h c).2⟩)
      (Cert.ReferenceIdeal.Value.run m' ρ')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
